-- ==== Defs.lean ====
def Pre_SsmDisc (m : (ℓ : Loc Cert.SsmDisc.nD Cert.SsmDisc.τ Cert.SsmDisc.sig) → Buf (Elt Bits) ℓ) : Prop :=
  True

def Pre_SsmDiscIdeal (m : (ℓ : Loc Cert.SsmDiscIdeal.nD Cert.SsmDiscIdeal.τ Cert.SsmDiscIdeal.sig) → Buf (Elt Ideal) ℓ) : Prop :=
  True

def Pre_SsmDiscRefIdeal (m : (ℓ : Loc Cert.SsmDiscRefIdeal.nD Cert.SsmDiscRefIdeal.τ Cert.SsmDiscRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_SsmDisc [hSsmDisc : Cert.SsmDisc.Facts] : Prop :=
  ∀ (m : (ℓ : Loc Cert.SsmDisc.nD Cert.SsmDisc.τ Cert.SsmDisc.sig) → Buf (Elt Bits) ℓ) (g : Dev Cert.SsmDisc.nD → PrngReg), Pre_SsmDisc m →
    θ_run (Cert.SsmDisc.defs (F := Bits)) (onTc (τ := Cert.SsmDisc.τ) (Cert.SsmDisc.main (F := Bits))) ⟨m, fun _ => 0, g⟩ (fun r => (∀ c : Dev Cert.SsmDisc.nD,
      r.2.mem ((c.tc : Thread Cert.SsmDisc.nD Cert.SsmDisc.τ).loc Cert.SsmDisc.main_arg0) = m ((c.tc : Thread Cert.SsmDisc.nD Cert.SsmDisc.τ).loc Cert.SsmDisc.main_arg0)
      ∧ r.2.mem ((c.tc : Thread Cert.SsmDisc.nD Cert.SsmDisc.τ).loc Cert.SsmDisc.main_arg1) = m ((c.tc : Thread Cert.SsmDisc.nD Cert.SsmDisc.τ).loc Cert.SsmDisc.main_arg1)
      ∧ r.2.mem ((c.tc : Thread Cert.SsmDisc.nD Cert.SsmDisc.τ).loc Cert.SsmDisc.main_arg2) = m ((c.tc : Thread Cert.SsmDisc.nD Cert.SsmDisc.τ).loc Cert.SsmDisc.main_arg2)
      ∧ r.2.mem ((c.tc : Thread Cert.SsmDisc.nD Cert.SsmDisc.τ).loc Cert.SsmDisc.main_arg3) = m ((c.tc : Thread Cert.SsmDisc.nD Cert.SsmDisc.τ).loc Cert.SsmDisc.main_arg3)
      ∧ r.2.mem ((c.tc : Thread Cert.SsmDisc.nD Cert.SsmDisc.τ).loc Cert.SsmDisc.main_arg4) = m ((c.tc : Thread Cert.SsmDisc.nD Cert.SsmDisc.τ).loc Cert.SsmDisc.main_arg4))
      ∧ r.2.sem = fun _ => 0)

def quiescent_SsmDiscIdeal [hSsmDiscIdeal : Cert.SsmDiscIdeal.Facts] : Prop :=
  ∀ (m : (ℓ : Loc Cert.SsmDiscIdeal.nD Cert.SsmDiscIdeal.τ Cert.SsmDiscIdeal.sig) → Buf (Elt Ideal) ℓ) (g : Dev Cert.SsmDiscIdeal.nD → PrngReg), Pre_SsmDiscIdeal m →
    θ_run (Cert.SsmDiscIdeal.defs (F := Ideal)) (onTc (τ := Cert.SsmDiscIdeal.τ) (Cert.SsmDiscIdeal.main (F := Ideal))) ⟨m, fun _ => 0, g⟩ (fun r => (∀ c : Dev Cert.SsmDiscIdeal.nD,
      r.2.mem ((c.tc : Thread Cert.SsmDiscIdeal.nD Cert.SsmDiscIdeal.τ).loc Cert.SsmDiscIdeal.main_arg0) = m ((c.tc : Thread Cert.SsmDiscIdeal.nD Cert.SsmDiscIdeal.τ).loc Cert.SsmDiscIdeal.main_arg0)
      ∧ r.2.mem ((c.tc : Thread Cert.SsmDiscIdeal.nD Cert.SsmDiscIdeal.τ).loc Cert.SsmDiscIdeal.main_arg1) = m ((c.tc : Thread Cert.SsmDiscIdeal.nD Cert.SsmDiscIdeal.τ).loc Cert.SsmDiscIdeal.main_arg1)
      ∧ r.2.mem ((c.tc : Thread Cert.SsmDiscIdeal.nD Cert.SsmDiscIdeal.τ).loc Cert.SsmDiscIdeal.main_arg2) = m ((c.tc : Thread Cert.SsmDiscIdeal.nD Cert.SsmDiscIdeal.τ).loc Cert.SsmDiscIdeal.main_arg2)
      ∧ r.2.mem ((c.tc : Thread Cert.SsmDiscIdeal.nD Cert.SsmDiscIdeal.τ).loc Cert.SsmDiscIdeal.main_arg3) = m ((c.tc : Thread Cert.SsmDiscIdeal.nD Cert.SsmDiscIdeal.τ).loc Cert.SsmDiscIdeal.main_arg3)
      ∧ r.2.mem ((c.tc : Thread Cert.SsmDiscIdeal.nD Cert.SsmDiscIdeal.τ).loc Cert.SsmDiscIdeal.main_arg4) = m ((c.tc : Thread Cert.SsmDiscIdeal.nD Cert.SsmDiscIdeal.τ).loc Cert.SsmDiscIdeal.main_arg4))
      ∧ r.2.sem = fun _ => 0)

def quiescent_SsmDiscRefIdeal [hSsmDiscRefIdeal : Cert.SsmDiscRefIdeal.Facts] : Prop :=
  ∀ (m : (ℓ : Loc Cert.SsmDiscRefIdeal.nD Cert.SsmDiscRefIdeal.τ Cert.SsmDiscRefIdeal.sig) → Buf (Elt Ideal) ℓ) (g : Dev Cert.SsmDiscRefIdeal.nD → PrngReg), Pre_SsmDiscRefIdeal m →
    θ_run (Cert.SsmDiscRefIdeal.defs (F := Ideal)) (onTc (τ := Cert.SsmDiscRefIdeal.τ) (Cert.SsmDiscRefIdeal.main (F := Ideal))) ⟨m, fun _ => 0, g⟩ (fun r => (∀ c : Dev Cert.SsmDiscRefIdeal.nD,
      r.2.mem ((c.tc : Thread Cert.SsmDiscRefIdeal.nD Cert.SsmDiscRefIdeal.τ).loc Cert.SsmDiscRefIdeal.main_arg0) = m ((c.tc : Thread Cert.SsmDiscRefIdeal.nD Cert.SsmDiscRefIdeal.τ).loc Cert.SsmDiscRefIdeal.main_arg0)
      ∧ r.2.mem ((c.tc : Thread Cert.SsmDiscRefIdeal.nD Cert.SsmDiscRefIdeal.τ).loc Cert.SsmDiscRefIdeal.main_arg1) = m ((c.tc : Thread Cert.SsmDiscRefIdeal.nD Cert.SsmDiscRefIdeal.τ).loc Cert.SsmDiscRefIdeal.main_arg1)
      ∧ r.2.mem ((c.tc : Thread Cert.SsmDiscRefIdeal.nD Cert.SsmDiscRefIdeal.τ).loc Cert.SsmDiscRefIdeal.main_arg2) = m ((c.tc : Thread Cert.SsmDiscRefIdeal.nD Cert.SsmDiscRefIdeal.τ).loc Cert.SsmDiscRefIdeal.main_arg2)
      ∧ r.2.mem ((c.tc : Thread Cert.SsmDiscRefIdeal.nD Cert.SsmDiscRefIdeal.τ).loc Cert.SsmDiscRefIdeal.main_arg3) = m ((c.tc : Thread Cert.SsmDiscRefIdeal.nD Cert.SsmDiscRefIdeal.τ).loc Cert.SsmDiscRefIdeal.main_arg3)
      ∧ r.2.mem ((c.tc : Thread Cert.SsmDiscRefIdeal.nD Cert.SsmDiscRefIdeal.τ).loc Cert.SsmDiscRefIdeal.main_arg4) = m ((c.tc : Thread Cert.SsmDiscRefIdeal.nD Cert.SsmDiscRefIdeal.τ).loc Cert.SsmDiscRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def preserves_SsmDisc_SsmDiscIdeal : Prop :=
  True

def algebraic_SsmDiscIdeal_SsmDiscRefIdeal [hSsmDiscIdeal : Cert.SsmDiscIdeal.Facts] [hSsmDiscRefIdeal : Cert.SsmDiscRefIdeal.Facts] : Prop :=
  ∀ (m : (ℓ : Loc Cert.SsmDiscIdeal.nD Cert.SsmDiscIdeal.τ Cert.SsmDiscIdeal.sig) → Buf (Elt Ideal) ℓ) (g : Dev Cert.SsmDiscIdeal.nD → PrngReg)
    (m' : (ℓ : Loc Cert.SsmDiscRefIdeal.nD Cert.SsmDiscRefIdeal.τ Cert.SsmDiscRefIdeal.sig) → Buf (Elt Ideal) ℓ) (g' : Dev Cert.SsmDiscRefIdeal.nD → PrngReg), Pre_SsmDiscIdeal m →
    (∀ c : Dev Cert.SsmDiscIdeal.nD,
      m' ((c.tc : Thread Cert.SsmDiscRefIdeal.nD Cert.SsmDiscRefIdeal.τ).loc Cert.SsmDiscRefIdeal.main_arg0) = m ((c.tc : Thread Cert.SsmDiscIdeal.nD Cert.SsmDiscIdeal.τ).loc Cert.SsmDiscIdeal.main_arg0)
      ∧ m' ((c.tc : Thread Cert.SsmDiscRefIdeal.nD Cert.SsmDiscRefIdeal.τ).loc Cert.SsmDiscRefIdeal.main_arg1) = m ((c.tc : Thread Cert.SsmDiscIdeal.nD Cert.SsmDiscIdeal.τ).loc Cert.SsmDiscIdeal.main_arg1)
      ∧ m' ((c.tc : Thread Cert.SsmDiscRefIdeal.nD Cert.SsmDiscRefIdeal.τ).loc Cert.SsmDiscRefIdeal.main_arg2) = m ((c.tc : Thread Cert.SsmDiscIdeal.nD Cert.SsmDiscIdeal.τ).loc Cert.SsmDiscIdeal.main_arg2)
      ∧ m' ((c.tc : Thread Cert.SsmDiscRefIdeal.nD Cert.SsmDiscRefIdeal.τ).loc Cert.SsmDiscRefIdeal.main_arg3) = m ((c.tc : Thread Cert.SsmDiscIdeal.nD Cert.SsmDiscIdeal.τ).loc Cert.SsmDiscIdeal.main_arg3)
      ∧ m' ((c.tc : Thread Cert.SsmDiscRefIdeal.nD Cert.SsmDiscRefIdeal.τ).loc Cert.SsmDiscRefIdeal.main_arg4) = m ((c.tc : Thread Cert.SsmDiscIdeal.nD Cert.SsmDiscIdeal.τ).loc Cert.SsmDiscIdeal.main_arg4)) →
    ∃ (v0 : (c : Dev Cert.SsmDiscIdeal.nD) → Buf (Elt Ideal) ((c.tc : Thread Cert.SsmDiscIdeal.nD Cert.SsmDiscIdeal.τ).loc Cert.SsmDiscIdeal.main_v8_0)) (v1 : (c : Dev Cert.SsmDiscIdeal.nD) → Buf (Elt Ideal) ((c.tc : Thread Cert.SsmDiscIdeal.nD Cert.SsmDiscIdeal.τ).loc Cert.SsmDiscIdeal.main_v8_1)) (v2 : (c : Dev Cert.SsmDiscIdeal.nD) → Buf (Elt Ideal) ((c.tc : Thread Cert.SsmDiscIdeal.nD Cert.SsmDiscIdeal.τ).loc Cert.SsmDiscIdeal.main_v8_2)) (v3 : (c : Dev Cert.SsmDiscIdeal.nD) → Buf (Elt Ideal) ((c.tc : Thread Cert.SsmDiscIdeal.nD Cert.SsmDiscIdeal.τ).loc Cert.SsmDiscIdeal.main_v8_3)),
      θ_run (Cert.SsmDiscIdeal.defs (F := Ideal)) (onTc (τ := Cert.SsmDiscIdeal.τ) (Cert.SsmDiscIdeal.main (F := Ideal))) ⟨m, fun _ => 0, g⟩ (fun r => ∀ c : Dev Cert.SsmDiscIdeal.nD,
          r.2.mem ((c.tc : Thread Cert.SsmDiscIdeal.nD Cert.SsmDiscIdeal.τ).loc Cert.SsmDiscIdeal.main_v8_0) = v0 c
          ∧ r.2.mem ((c.tc : Thread Cert.SsmDiscIdeal.nD Cert.SsmDiscIdeal.τ).loc Cert.SsmDiscIdeal.main_v8_1) = v1 c
          ∧ r.2.mem ((c.tc : Thread Cert.SsmDiscIdeal.nD Cert.SsmDiscIdeal.τ).loc Cert.SsmDiscIdeal.main_v8_2) = v2 c
          ∧ r.2.mem ((c.tc : Thread Cert.SsmDiscIdeal.nD Cert.SsmDiscIdeal.τ).loc Cert.SsmDiscIdeal.main_v8_3) = v3 c
          ∧ r.2.mem ((c.tc : Thread Cert.SsmDiscIdeal.nD Cert.SsmDiscIdeal.τ).loc Cert.SsmDiscIdeal.main_arg0) = m ((c.tc : Thread Cert.SsmDiscIdeal.nD Cert.SsmDiscIdeal.τ).loc Cert.SsmDiscIdeal.main_arg0)
          ∧ r.2.mem ((c.tc : Thread Cert.SsmDiscIdeal.nD Cert.SsmDiscIdeal.τ).loc Cert.SsmDiscIdeal.main_arg1) = m ((c.tc : Thread Cert.SsmDiscIdeal.nD Cert.SsmDiscIdeal.τ).loc Cert.SsmDiscIdeal.main_arg1)
          ∧ r.2.mem ((c.tc : Thread Cert.SsmDiscIdeal.nD Cert.SsmDiscIdeal.τ).loc Cert.SsmDiscIdeal.main_arg2) = m ((c.tc : Thread Cert.SsmDiscIdeal.nD Cert.SsmDiscIdeal.τ).loc Cert.SsmDiscIdeal.main_arg2)
          ∧ r.2.mem ((c.tc : Thread Cert.SsmDiscIdeal.nD Cert.SsmDiscIdeal.τ).loc Cert.SsmDiscIdeal.main_arg3) = m ((c.tc : Thread Cert.SsmDiscIdeal.nD Cert.SsmDiscIdeal.τ).loc Cert.SsmDiscIdeal.main_arg3)
          ∧ r.2.mem ((c.tc : Thread Cert.SsmDiscIdeal.nD Cert.SsmDiscIdeal.τ).loc Cert.SsmDiscIdeal.main_arg4) = m ((c.tc : Thread Cert.SsmDiscIdeal.nD Cert.SsmDiscIdeal.τ).loc Cert.SsmDiscIdeal.main_arg4))
      ∧ θ_run (Cert.SsmDiscRefIdeal.defs (F := Ideal)) (onTc (τ := Cert.SsmDiscRefIdeal.τ) (Cert.SsmDiscRefIdeal.main (F := Ideal))) ⟨m', fun _ => 0, g'⟩ (fun r => ∀ c : Dev Cert.SsmDiscRefIdeal.nD,
          r.2.mem ((c.tc : Thread Cert.SsmDiscRefIdeal.nD Cert.SsmDiscRefIdeal.τ).loc Cert.SsmDiscRefIdeal.main_v13) = v0 c
          ∧ r.2.mem ((c.tc : Thread Cert.SsmDiscRefIdeal.nD Cert.SsmDiscRefIdeal.τ).loc Cert.SsmDiscRefIdeal.main_v17) = v1 c
          ∧ r.2.mem ((c.tc : Thread Cert.SsmDiscRefIdeal.nD Cert.SsmDiscRefIdeal.τ).loc Cert.SsmDiscRefIdeal.main_v47) = v2 c
          ∧ r.2.mem ((c.tc : Thread Cert.SsmDiscRefIdeal.nD Cert.SsmDiscRefIdeal.τ).loc Cert.SsmDiscRefIdeal.main_v48) = v3 c
          ∧ r.2.mem ((c.tc : Thread Cert.SsmDiscRefIdeal.nD Cert.SsmDiscRefIdeal.τ).loc Cert.SsmDiscRefIdeal.main_arg0) = m' ((c.tc : Thread Cert.SsmDiscRefIdeal.nD Cert.SsmDiscRefIdeal.τ).loc Cert.SsmDiscRefIdeal.main_arg0)
          ∧ r.2.mem ((c.tc : Thread Cert.SsmDiscRefIdeal.nD Cert.SsmDiscRefIdeal.τ).loc Cert.SsmDiscRefIdeal.main_arg1) = m' ((c.tc : Thread Cert.SsmDiscRefIdeal.nD Cert.SsmDiscRefIdeal.τ).loc Cert.SsmDiscRefIdeal.main_arg1)
          ∧ r.2.mem ((c.tc : Thread Cert.SsmDiscRefIdeal.nD Cert.SsmDiscRefIdeal.τ).loc Cert.SsmDiscRefIdeal.main_arg2) = m' ((c.tc : Thread Cert.SsmDiscRefIdeal.nD Cert.SsmDiscRefIdeal.τ).loc Cert.SsmDiscRefIdeal.main_arg2)
          ∧ r.2.mem ((c.tc : Thread Cert.SsmDiscRefIdeal.nD Cert.SsmDiscRefIdeal.τ).loc Cert.SsmDiscRefIdeal.main_arg3) = m' ((c.tc : Thread Cert.SsmDiscRefIdeal.nD Cert.SsmDiscRefIdeal.τ).loc Cert.SsmDiscRefIdeal.main_arg3)
          ∧ r.2.mem ((c.tc : Thread Cert.SsmDiscRefIdeal.nD Cert.SsmDiscRefIdeal.τ).loc Cert.SsmDiscRefIdeal.main_arg4) = m' ((c.tc : Thread Cert.SsmDiscRefIdeal.nD Cert.SsmDiscRefIdeal.τ).loc Cert.SsmDiscRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v21_0)) (v1 : (c : Dev Cert.InprojIdeal.nD) → Buf (Elt Ideal) ((c.tc : Thread Cert.InprojIdeal.nD Cert.InprojIdeal.τ).loc Cert.InprojIdeal.main_v21_1)) (v2 : (c : Dev Cert.InprojIdeal.nD) → Buf (Elt Ideal) ((c.tc : Thread Cert.InprojIdeal.nD Cert.InprojIdeal.τ).loc Cert.InprojIdeal.main_v21_2)) (v3 : (c : Dev Cert.InprojIdeal.nD) → Buf (Elt Ideal) ((c.tc : Thread Cert.InprojIdeal.nD Cert.InprojIdeal.τ).loc Cert.InprojIdeal.main_v21_3)) (v4 : (c : Dev Cert.InprojIdeal.nD) → Buf (Elt Ideal) ((c.tc : Thread Cert.InprojIdeal.nD Cert.InprojIdeal.τ).loc Cert.InprojIdeal.main_v21_4)) (v5 : (c : Dev Cert.InprojIdeal.nD) → Buf (Elt Ideal) ((c.tc : Thread Cert.InprojIdeal.nD Cert.InprojIdeal.τ).loc Cert.InprojIdeal.main_v21_5)) (v6 : (c : Dev Cert.InprojIdeal.nD) → Buf (Elt Ideal) ((c.tc : Thread Cert.InprojIdeal.nD Cert.InprojIdeal.τ).loc Cert.InprojIdeal.main_v21_6)) (v7 : (c : Dev Cert.InprojIdeal.nD) → Buf (Elt Ideal) ((c.tc : Thread Cert.InprojIdeal.nD Cert.InprojIdeal.τ).loc Cert.InprojIdeal.main_v21_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v21_0) = v0 c
          ∧ r.2.mem ((c.tc : Thread Cert.InprojIdeal.nD Cert.InprojIdeal.τ).loc Cert.InprojIdeal.main_v21_1) = v1 c
          ∧ r.2.mem ((c.tc : Thread Cert.InprojIdeal.nD Cert.InprojIdeal.τ).loc Cert.InprojIdeal.main_v21_2) = v2 c
          ∧ r.2.mem ((c.tc : Thread Cert.InprojIdeal.nD Cert.InprojIdeal.τ).loc Cert.InprojIdeal.main_v21_3) = v3 c
          ∧ r.2.mem ((c.tc : Thread Cert.InprojIdeal.nD Cert.InprojIdeal.τ).loc Cert.InprojIdeal.main_v21_4) = v4 c
          ∧ r.2.mem ((c.tc : Thread Cert.InprojIdeal.nD Cert.InprojIdeal.τ).loc Cert.InprojIdeal.main_v21_5) = v5 c
          ∧ r.2.mem ((c.tc : Thread Cert.InprojIdeal.nD Cert.InprojIdeal.τ).loc Cert.InprojIdeal.main_v21_6) = v6 c
          ∧ r.2.mem ((c.tc : Thread Cert.InprojIdeal.nD Cert.InprojIdeal.τ).loc Cert.InprojIdeal.main_v21_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v31) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_v33) = v2 c
          ∧ r.2.mem ((c.tc : Thread Cert.InprojRefIdeal.nD Cert.InprojRefIdeal.τ).loc Cert.InprojRefIdeal.main_v34) = v3 c
          ∧ r.2.mem ((c.tc : Thread Cert.InprojRefIdeal.nD Cert.InprojRefIdeal.τ).loc Cert.InprojRefIdeal.main_v37) = v4 c
          ∧ r.2.mem ((c.tc : Thread Cert.InprojRefIdeal.nD Cert.InprojRefIdeal.τ).loc Cert.InprojRefIdeal.main_v40) = v5 c
          ∧ r.2.mem ((c.tc : Thread Cert.InprojRefIdeal.nD Cert.InprojRefIdeal.τ).loc Cert.InprojRefIdeal.main_v41) = v6 c
          ∧ r.2.mem ((c.tc : Thread Cert.InprojRefIdeal.nD Cert.InprojRefIdeal.τ).loc Cert.InprojRefIdeal.main_v43) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)) →
    ∃ (v0 : (c : Dev Cert.InprojSIdeal.nD) → Buf (Elt Ideal) ((c.tc : Thread Cert.InprojSIdeal.nD Cert.InprojSIdeal.τ).loc Cert.InprojSIdeal.main_v21_0)) (v1 : (c : Dev Cert.InprojSIdeal.nD) → Buf (Elt Ideal) ((c.tc : Thread Cert.InprojSIdeal.nD Cert.InprojSIdeal.τ).loc Cert.InprojSIdeal.main_v21_1)) (v2 : (c : Dev Cert.InprojSIdeal.nD) → Buf (Elt Ideal) ((c.tc : Thread Cert.InprojSIdeal.nD Cert.InprojSIdeal.τ).loc Cert.InprojSIdeal.main_v21_2)) (v3 : (c : Dev Cert.InprojSIdeal.nD) → Buf (Elt Ideal) ((c.tc : Thread Cert.InprojSIdeal.nD Cert.InprojSIdeal.τ).loc Cert.InprojSIdeal.main_v21_3)) (v4 : (c : Dev Cert.InprojSIdeal.nD) → Buf (Elt Ideal) ((c.tc : Thread Cert.InprojSIdeal.nD Cert.InprojSIdeal.τ).loc Cert.InprojSIdeal.main_v21_4)) (v5 : (c : Dev Cert.InprojSIdeal.nD) → Buf (Elt Ideal) ((c.tc : Thread Cert.InprojSIdeal.nD Cert.InprojSIdeal.τ).loc Cert.InprojSIdeal.main_v21_5)) (v6 : (c : Dev Cert.InprojSIdeal.nD) → Buf (Elt Ideal) ((c.tc : Thread Cert.InprojSIdeal.nD Cert.InprojSIdeal.τ).loc Cert.InprojSIdeal.main_v21_6)) (v7 : (c : Dev Cert.InprojSIdeal.nD) → Buf (Elt Ideal) ((c.tc : Thread Cert.InprojSIdeal.nD Cert.InprojSIdeal.τ).loc Cert.InprojSIdeal.main_v21_7)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v21_0) = v0 c
          ∧ r.2.mem ((c.tc : Thread Cert.InprojSIdeal.nD Cert.InprojSIdeal.τ).loc Cert.InprojSIdeal.main_v21_1) = v1 c
          ∧ r.2.mem ((c.tc : Thread Cert.InprojSIdeal.nD Cert.InprojSIdeal.τ).loc Cert.InprojSIdeal.main_v21_2) = v2 c
          ∧ r.2.mem ((c.tc : Thread Cert.InprojSIdeal.nD Cert.InprojSIdeal.τ).loc Cert.InprojSIdeal.main_v21_3) = v3 c
          ∧ r.2.mem ((c.tc : Thread Cert.InprojSIdeal.nD Cert.InprojSIdeal.τ).loc Cert.InprojSIdeal.main_v21_4) = v4 c
          ∧ r.2.mem ((c.tc : Thread Cert.InprojSIdeal.nD Cert.InprojSIdeal.τ).loc Cert.InprojSIdeal.main_v21_5) = v5 c
          ∧ r.2.mem ((c.tc : Thread Cert.InprojSIdeal.nD Cert.InprojSIdeal.τ).loc Cert.InprojSIdeal.main_v21_6) = v6 c
          ∧ r.2.mem ((c.tc : Thread Cert.InprojSIdeal.nD Cert.InprojSIdeal.τ).loc Cert.InprojSIdeal.main_v21_7) = v7 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v32) = v0 c
          ∧ r.2.mem ((c.tc : Thread Cert.InprojSRefIdeal.nD Cert.InprojSRefIdeal.τ).loc Cert.InprojSRefIdeal.main_v33) = v1 c
          ∧ r.2.mem ((c.tc : Thread Cert.InprojSRefIdeal.nD Cert.InprojSRefIdeal.τ).loc Cert.InprojSRefIdeal.main_v34) = v2 c
          ∧ r.2.mem ((c.tc : Thread Cert.InprojSRefIdeal.nD Cert.InprojSRefIdeal.τ).loc Cert.InprojSRefIdeal.main_v35) = v3 c
          ∧ r.2.mem ((c.tc : Thread Cert.InprojSRefIdeal.nD Cert.InprojSRefIdeal.τ).loc Cert.InprojSRefIdeal.main_v38) = v4 c
          ∧ r.2.mem ((c.tc : Thread Cert.InprojSRefIdeal.nD Cert.InprojSRefIdeal.τ).loc Cert.InprojSRefIdeal.main_v41) = v5 c
          ∧ r.2.mem ((c.tc : Thread Cert.InprojSRefIdeal.nD Cert.InprojSRefIdeal.τ).loc Cert.InprojSRefIdeal.main_v42) = v6 c
          ∧ r.2.mem ((c.tc : Thread Cert.InprojSRefIdeal.nD Cert.InprojSRefIdeal.τ).loc Cert.InprojSRefIdeal.main_v44) = v7 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_v68) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v5)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v7)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v7) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v57) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def Claim : Prop :=
  ∃ (hSsmDisc : Cert.SsmDisc.Facts) (hSsmDiscIdeal : Cert.SsmDiscIdeal.Facts) (hSsmDiscRefIdeal : Cert.SsmDiscRefIdeal.Facts) (hInproj : Cert.Inproj.Facts) (hInprojIdeal : Cert.InprojIdeal.Facts) (hInprojRefIdeal : Cert.InprojRefIdeal.Facts) (hInprojS : Cert.InprojS.Facts) (hInprojSIdeal : Cert.InprojSIdeal.Facts) (hInprojSRefIdeal : Cert.InprojSRefIdeal.Facts) (hMerge : Cert.Merge.Facts) (hMergeIdeal : Cert.MergeIdeal.Facts) (hMergeRefIdeal : Cert.MergeRefIdeal.Facts) (hMemkv : Cert.Memkv.Facts) (hMemkvIdeal : Cert.MemkvIdeal.Facts) (hMemkvRefIdeal : Cert.MemkvRefIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts),
    quiescent_SsmDisc (hSsmDisc := hSsmDisc)
    ∧ quiescent_SsmDiscIdeal (hSsmDiscIdeal := hSsmDiscIdeal)
    ∧ quiescent_SsmDiscRefIdeal (hSsmDiscRefIdeal := hSsmDiscRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_Merge (hMerge := hMerge)
    ∧ quiescent_MergeIdeal (hMergeIdeal := hMergeIdeal)
    ∧ quiescent_MergeRefIdeal (hMergeRefIdeal := hMergeRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_SsmDisc_SsmDiscIdeal
    ∧ algebraic_SsmDiscIdeal_SsmDiscRefIdeal (hSsmDiscIdeal := hSsmDiscIdeal) (hSsmDiscRefIdeal := hSsmDiscRefIdeal)
    ∧ preserves_Inproj_InprojIdeal
    ∧ algebraic_InprojIdeal_InprojRefIdeal (hInprojIdeal := hInprojIdeal) (hInprojRefIdeal := hInprojRefIdeal)
    ∧ preserves_InprojS_InprojSIdeal
    ∧ algebraic_InprojSIdeal_InprojSRefIdeal (hInprojSIdeal := hInprojSIdeal) (hInprojSRefIdeal := hInprojSRefIdeal)
    ∧ preserves_Merge_MergeIdeal
    ∧ algebraic_MergeIdeal_MergeRefIdeal (hMergeIdeal := hMergeIdeal) (hMergeRefIdeal := hMergeRefIdeal)
    ∧ preserves_Memkv_MemkvIdeal
    ∧ algebraic_MemkvIdeal_MemkvRefIdeal (hMemkvIdeal := hMemkvIdeal) (hMemkvRefIdeal := hMemkvRefIdeal)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
-- ==== SsmDisc.lean ====
abbrev S1x32x64 : Shape := ⟨3, ![1, 32, 64]⟩
abbrev S1x32x64x16 : Shape := ⟨4, ![1, 32, 64, 16]⟩
abbrev S1x32 : Shape := ⟨2, ![1, 32]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 17
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64x16, .f32⟩
  | .hbm, ⟨3, _⟩ => ⟨S1x32x64x16, .f32⟩
  | .hbm, ⟨4, _⟩ => ⟨S1x32, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32, .f32⟩
  | .hbm, ⟨10, _⟩ => ⟨S32x1, .f32⟩
  | .hbm, ⟨11, _⟩ => ⟨S32x16x64, .f32⟩
  | .hbm, ⟨12, _⟩ => ⟨S32x16x64, .f32⟩
  | .hbm, ⟨13, _⟩ => ⟨S32x64, .f32⟩
  | .hbm, ⟨14, _⟩ => ⟨S32x64, .f32⟩
  | .hbm, ⟨15, _⟩ => ⟨S32x16x64, .f32⟩
  | .hbm, ⟨16, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SsmDiscRefIdeal.lean ====
abbrev S1x32x64 : Shape := ⟨3, ![1, 32, 64]⟩
abbrev S1x32x64x16 : Shape := ⟨4, ![1, 32, 64, 16]⟩
abbrev S1x32 : Shape := ⟨2, ![1, 32]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 56
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64x16, .f32⟩
  | .hbm, ⟨3, _⟩ => ⟨S1x32x64x16, .f32⟩
  | .hbm, ⟨4, _⟩ => ⟨S1x32, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x16, .f32⟩
  | .hbm, ⟨54, _⟩ => ⟨S32x16x64, .f32⟩
  | .hbm, ⟨55, _⟩ => ⟨S32x16x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Inproj.lean ====
abbrev S8x2048x1024 : Shape := ⟨3, ![8, 2048, 1024]⟩
abbrev S1x6x1024 : Shape := ⟨3, ![1, 6, 1024]⟩
abbrev S1x1024x1816 : Shape := ⟨3, ![1, 1024, 1816]⟩
abbrev S16384x1024 : Shape := ⟨2, ![16384, 1024]⟩
abbrev S6x1024 : Shape := ⟨2, ![6, 1024]⟩
abbrev S1x1024 : Shape := ⟨2, ![1, 1024]⟩
abbrev S1024x1816 : Shape := ⟨2, ![1024, 1816]⟩
abbrev S1024x256 : Shape := ⟨2, ![1024, 256]⟩
abbrev S1024x24 : Shape := ⟨2, ![1024, 24]⟩
abbrev S1024x2x12 : Shape := ⟨3, ![1024, 2, 12]⟩
abbrev S_ : Shape := ⟨0, ![]⟩
abbrev S1024x2x128 : Shape := ⟨3, ![1024, 2, 128]⟩
abbrev S1024x512 : Shape := ⟨2, ![1024, 512]⟩
abbrev S1024x2x2x64 : Shape := ⟨4, ![1024, 2, 2, 64]⟩
abbrev S1024x2560 : Shape := ⟨2, ![1024, 2560]⟩
abbrev S16384x512 : Shape := ⟨2, ![16384, 512]⟩
abbrev S16384x256 : Shape := ⟨2, ![16384, 256]⟩
abbrev S2048x4096 : Shape := ⟨2, ![2048, 4096]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2560 : Shape := ⟨2, ![512, 2560]⟩

abbrev nBuf : Space → Nat
  | .hbm => 34
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1x6x1024, .f32⟩
  | .hbm, ⟨2, _⟩ => ⟨S1x1024x1816, .f32⟩
  | .hbm, ⟨3, _⟩ => ⟨S16384x1024, .f32⟩
  | .hbm, ⟨4, _⟩ => ⟨S6x1024, .f32⟩
  | .hbm, ⟨5, _⟩ => ⟨S1x1024, .f32⟩
  | .hbm, ⟨6, _⟩ => ⟨S1024x1816, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x24, .f32⟩
  | .hbm, ⟨11, _⟩ => ⟨S1024x2x12, .f32⟩
  | .hbm, ⟨12, _⟩ => ⟨S_, .i32⟩
  | .hbm, ⟨13, _⟩ => ⟨S_, .f32⟩
  | .hbm, ⟨14, _⟩ => ⟨S1024x2x128, .f32⟩
  | .hbm, ⟨15, _⟩ => ⟨S1024x256, .f32⟩
  | .hbm, ⟨16, _⟩ => ⟨S1024x512, .f32⟩
  | .hbm, ⟨17, _⟩ => ⟨S1024x2x2x64, .f32⟩
  | .hbm, ⟨18, _⟩ => ⟨S1024x2x2x64, .f32⟩
  | .hbm, ⟨19, _⟩ => ⟨S1024x256, .f32⟩
  | .hbm, ⟨20, _⟩ => ⟨S1024x2x2x64, .f32⟩
  | .hbm, ⟨21, _⟩ => ⟨S1024x2x2x64, .f32⟩
  | .hbm, ⟨22, _⟩ => ⟨S1024x256, .f32⟩
  | .hbm, ⟨23, _⟩ => ⟨S1024x512, .f32⟩
  | .hbm, ⟨24, _⟩ => ⟨S1024x2560, .f32⟩
  | .hbm, ⟨25, _⟩ => ⟨S1024x2560, .bf16⟩
  | .hbm, ⟨26, _⟩ => ⟨S16384x512, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev main_v21_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InprojRefIdeal.lean ====
abbrev S8x2048x1024 : Shape := ⟨3, ![8, 2048, 1024]⟩
abbrev S1x6x1024 : Shape := ⟨3, ![1, 6, 1024]⟩
abbrev S1x1024x1816 : Shape := ⟨3, ![1, 1024, 1816]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1024x1816 : Shape := ⟨2, ![1024, 1816]⟩
abbrev S8x2048x1816 : Shape := ⟨3, ![8, 2048, 1816]⟩
abbrev S8x2048x512 : Shape := ⟨3, ![8, 2048, 512]⟩
abbrev S8x2048x256 : Shape := ⟨3, ![8, 2048, 256]⟩
abbrev S8x2048x24 : Shape := ⟨3, ![8, 2048, 24]⟩
abbrev S8x2048x2x12 : Shape := ⟨4, ![8, 2048, 2, 12]⟩
abbrev S8x2048x2x128 : Shape := ⟨4, ![8, 2048, 2, 128]⟩
abbrev S16384x512 : Shape := ⟨2, ![16384, 512]⟩
abbrev S16384x256 : Shape := ⟨2, ![16384, 256]⟩
abbrev S8x2048x2x2x64 : Shape := ⟨5, ![8, 2048, 2, 2, 64]⟩
abbrev S2048x8x512 : Shape := ⟨3, ![2048, 8, 512]⟩
abbrev S2048x4096 : Shape := ⟨2, ![2048, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x6x1024, .f32⟩
  | .hbm, ⟨2, _⟩ => ⟨S1x1024x1816, .f32⟩
  | .hbm, ⟨3, _⟩ => ⟨S1x1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x1816, .f32⟩
  | .hbm, ⟨22, _⟩ => ⟨S8x2048x1816, .f32⟩
  | .hbm, ⟨23, _⟩ => ⟨S8x2048x512, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S8x2048x24, .f32⟩
  | .hbm, ⟨28, _⟩ => ⟨S8x2048x24, .f32⟩
  | .hbm, ⟨29, _⟩ => ⟨S8x2048x24, .f32⟩
  | .hbm, ⟨30, _⟩ => ⟨S_, .f32⟩
  | .hbm, ⟨31, _⟩ => ⟨S8x2048x24, .f32⟩
  | .hbm, ⟨32, _⟩ => ⟨S8x2048x24, .f32⟩
  | .hbm, ⟨33, _⟩ => ⟨S_, .f32⟩
  | .hbm, ⟨34, _⟩ => ⟨S8x2048x24, .f32⟩
  | .hbm, ⟨35, _⟩ => ⟨S8x2048x24, .f32⟩
  | .hbm, ⟨36, _⟩ => ⟨S8x2048x2x12, .f32⟩
  | .hbm, ⟨37, _⟩ => ⟨S8x2048x512, .f32⟩
  | .hbm, ⟨38, _⟩ => ⟨S_, .f32⟩
  | .hbm, ⟨39, _⟩ => ⟨S_, .f32⟩
  | .hbm, ⟨40, _⟩ => ⟨S8x2048x2x128, .f32⟩
  | .hbm, ⟨41, _⟩ => ⟨S16384x512, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S8x2048x2x2x64, .f32⟩
  | .hbm, ⟨46, _⟩ => ⟨S8x2048x2x2x64, .f32⟩
  | .hbm, ⟨47, _⟩ => ⟨S16384x256, .f32⟩
  | .hbm, ⟨48, _⟩ => ⟨S8x2048x2x2x64, .f32⟩
  | .hbm, ⟨49, _⟩ => ⟨S8x2048x2x2x64, .f32⟩
  | .hbm, ⟨50, _⟩ => ⟨S16384x256, .f32⟩
  | .hbm, ⟨51, _⟩ => ⟨S16384x256, .f32⟩
  | .hbm, ⟨52, _⟩ => ⟨S2048x8x512, .f32⟩
  | .hbm, ⟨53, _⟩ => ⟨S2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== InprojS.lean ====
abbrev S128x1x1024 : Shape := ⟨3, ![128, 1, 1024]⟩
abbrev S1x6x1024 : Shape := ⟨3, ![1, 6, 1024]⟩
abbrev S1x1024x1816 : Shape := ⟨3, ![1, 1024, 1816]⟩
abbrev S128x1024 : Shape := ⟨2, ![128, 1024]⟩
abbrev S6x1024 : Shape := ⟨2, ![6, 1024]⟩
abbrev S1x1024 : Shape := ⟨2, ![1, 1024]⟩
abbrev S1024x1816 : Shape := ⟨2, ![1024, 1816]⟩
abbrev S1024x256 : Shape := ⟨2, ![1024, 256]⟩
abbrev S1024x24 : Shape := ⟨2, ![1024, 24]⟩
abbrev S1024x2x12 : Shape := ⟨3, ![1024, 2, 12]⟩
abbrev S_ : Shape := ⟨0, ![]⟩
abbrev S1024x2x128 : Shape := ⟨3, ![1024, 2, 128]⟩
abbrev S1024x512 : Shape := ⟨2, ![1024, 512]⟩
abbrev S1024x2x2x64 : Shape := ⟨4, ![1024, 2, 2, 64]⟩
abbrev S1024x2560 : Shape := ⟨2, ![1024, 2560]⟩
abbrev S128x512 : Shape := ⟨2, ![128, 512]⟩
abbrev S128x256 : Shape := ⟨2, ![128, 256]⟩
abbrev S128 : Shape := ⟨1, ![128]⟩
abbrev S128x1 : Shape := ⟨2, ![128, 1]⟩
abbrev S128x2560 : Shape := ⟨2, ![128, 2560]⟩

abbrev nBuf : Space → Nat
  | .hbm => 34
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1x6x1024, .f32⟩
  | .hbm, ⟨2, _⟩ => ⟨S1x1024x1816, .f32⟩
  | .hbm, ⟨3, _⟩ => ⟨S128x1024, .f32⟩
  | .hbm, ⟨4, _⟩ => ⟨S6x1024, .f32⟩
  | .hbm, ⟨5, _⟩ => ⟨S1x1024, .f32⟩
  | .hbm, ⟨6, _⟩ => ⟨S1024x1816, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x24, .f32⟩
  | .hbm, ⟨11, _⟩ => ⟨S1024x2x12, .f32⟩
  | .hbm, ⟨12, _⟩ => ⟨S_, .i32⟩
  | .hbm, ⟨13, _⟩ => ⟨S_, .f32⟩
  | .hbm, ⟨14, _⟩ => ⟨S1024x2x128, .f32⟩
  | .hbm, ⟨15, _⟩ => ⟨S1024x256, .f32⟩
  | .hbm, ⟨16, _⟩ => ⟨S1024x512, .f32⟩
  | .hbm, ⟨17, _⟩ => ⟨S1024x2x2x64, .f32⟩
  | .hbm, ⟨18, _⟩ => ⟨S1024x2x2x64, .f32⟩
  | .hbm, ⟨19, _⟩ => ⟨S1024x256, .f32⟩
  | .hbm, ⟨20, _⟩ => ⟨S1024x2x2x64, .f32⟩
  | .hbm, ⟨21, _⟩ => ⟨S1024x2x2x64, .f32⟩
  | .hbm, ⟨22, _⟩ => ⟨S1024x256, .f32⟩
  | .hbm, ⟨23, _⟩ => ⟨S1024x512, .f32⟩
  | .hbm, ⟨24, _⟩ => ⟨S1024x2560, .f32⟩
  | .hbm, ⟨25, _⟩ => ⟨S1024x2560, .bf16⟩
  | .hbm, ⟨26, _⟩ => ⟨S128x512, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S128x512, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev main_v21_7 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== InprojSRefIdeal.lean ====
abbrev S128x1x1024 : Shape := ⟨3, ![128, 1, 1024]⟩
abbrev S1x6x1024 : Shape := ⟨3, ![1, 6, 1024]⟩
abbrev S1x1024x1816 : Shape := ⟨3, ![1, 1024, 1816]⟩
abbrev S1x128x1024 : Shape := ⟨3, ![1, 128, 1024]⟩
abbrev S1x1x1024 : Shape := ⟨3, ![1, 1, 1024]⟩
abbrev S1024 : Shape := ⟨1, ![1024]⟩
abbrev S_ : Shape := ⟨0, ![]⟩
abbrev S1x128 : Shape := ⟨2, ![1, 128]⟩
abbrev S1x128x1 : Shape := ⟨3, ![1, 128, 1]⟩
abbrev S1024x1816 : Shape := ⟨2, ![1024, 1816]⟩
abbrev S1x128x1816 : Shape := ⟨3, ![1, 128, 1816]⟩
abbrev S1x128x512 : Shape := ⟨3, ![1, 128, 512]⟩
abbrev S1x128x256 : Shape := ⟨3, ![1, 128, 256]⟩
abbrev S1x128x24 : Shape := ⟨3, ![1, 128, 24]⟩
abbrev S1x128x2x12 : Shape := ⟨4, ![1, 128, 2, 12]⟩
abbrev S1x128x2x128 : Shape := ⟨4, ![1, 128, 2, 128]⟩
abbrev S128x512 : Shape := ⟨2, ![128, 512]⟩
abbrev S128x256 : Shape := ⟨2, ![128, 256]⟩
abbrev S1x128x2x2x64 : Shape := ⟨5, ![1, 128, 2, 2, 64]⟩
abbrev S128x1x512 : Shape := ⟨3, ![128, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x6x1024, .f32⟩
  | .hbm, ⟨2, _⟩ => ⟨S1x1024x1816, .f32⟩
  | .hbm, ⟨3, _⟩ => ⟨S1x128x1024, .f32⟩
  | .hbm, ⟨4, _⟩ => ⟨S1x1x1024, .f32⟩
  | .hbm, ⟨5, _⟩ => ⟨S1024, .f32⟩
  | .hbm, ⟨6, _⟩ => ⟨S1x128x1024, .f32⟩
  | .hbm, ⟨7, _⟩ => ⟨S_, .f32⟩
  | .hbm, ⟨8, _⟩ => ⟨S1x128, .f32⟩
  | .hbm, ⟨9, _⟩ => ⟨S1x128x1, .f32⟩
  | .hbm, ⟨10, _⟩ => ⟨S_, .f32⟩
  | .hbm, ⟨11, _⟩ => ⟨S1x128x1, .f32⟩
  | .hbm, ⟨12, _⟩ => ⟨S1x128x1, .f32⟩
  | .hbm, ⟨13, _⟩ => ⟨S_, .f32⟩
  | .hbm, ⟨14, _⟩ => ⟨S1x128x1, .f32⟩
  | .hbm, ⟨15, _⟩ => ⟨S1x128x1, .f32⟩
  | .hbm, ⟨16, _⟩ => ⟨S1x128x1, .f32⟩
  | .hbm, ⟨17, _⟩ => ⟨S1x128x1024, .f32⟩
  | .hbm, ⟨18, _⟩ => ⟨S1x128x1024, .f32⟩
  | .hbm, ⟨19, _⟩ => ⟨S1x1x1024, .f32⟩
  | .hbm, ⟨20, _⟩ => ⟨S1x128x1024, .f32⟩
  | .hbm, ⟨21, _⟩ => ⟨S1x128x1024, .f32⟩
  | .hbm, ⟨22, _⟩ => ⟨S1024x1816, .f32⟩
  | .hbm, ⟨23, _⟩ => ⟨S1x128x1816, .f32⟩
  | .hbm, ⟨24, _⟩ => ⟨S1x128x512, .f32⟩
  | .hbm, ⟨25, _⟩ => ⟨S1x128x256, .f32⟩
  | .hbm, ⟨26, _⟩ => ⟨S1x128x256, .f32⟩
  | .hbm, ⟨27, _⟩ => ⟨S1x128x256, .f32⟩
  | .hbm, ⟨28, _⟩ => ⟨S1x128x24, .f32⟩
  | .hbm, ⟨29, _⟩ => ⟨S1x128x24, .f32⟩
  | .hbm, ⟨30, _⟩ => ⟨S1x128x24, .f32⟩
  | .hbm, ⟨31, _⟩ => ⟨S_, .f32⟩
  | .hbm, ⟨32, _⟩ => ⟨S1x128x24, .f32⟩
  | .hbm, ⟨33, _⟩ => ⟨S1x128x24, .f32⟩
  | .hbm, ⟨34, _⟩ => ⟨S_, .f32⟩
  | .hbm, ⟨35, _⟩ => ⟨S1x128x24, .f32⟩
  | .hbm, ⟨36, _⟩ => ⟨S1x128x24, .f32⟩
  | .hbm, ⟨37, _⟩ => ⟨S1x128x2x12, .f32⟩
  | .hbm, ⟨38, _⟩ => ⟨S1x128x512, .f32⟩
  | .hbm, ⟨39, _⟩ => ⟨S_, .f32⟩
  | .hbm, ⟨40, _⟩ => ⟨S_, .f32⟩
  | .hbm, ⟨41, _⟩ => ⟨S1x128x2x128, .f32⟩
  | .hbm, ⟨42, _⟩ => ⟨S128x512, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S1x128x2x2x64, .f32⟩
  | .hbm, ⟨47, _⟩ => ⟨S1x128x2x2x64, .f32⟩
  | .hbm, ⟨48, _⟩ => ⟨S128x256, .f32⟩
  | .hbm, ⟨49, _⟩ => ⟨S1x128x2x2x64, .f32⟩
  | .hbm, ⟨50, _⟩ => ⟨S1x128x2x2x64, .f32⟩
  | .hbm, ⟨51, _⟩ => ⟨S128x256, .f32⟩
  | .hbm, ⟨52, _⟩ => ⟨S128x256, .f32⟩
  | .hbm, ⟨53, _⟩ => ⟨S128x1x512, .f32⟩
  | .hbm, ⟨54, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Merge.lean ====
abbrev S8x2048x512 : Shape := ⟨3, ![8, 2048, 512]⟩
abbrev S2048x8x512 : Shape := ⟨3, ![2048, 8, 512]⟩
abbrev S8x2048x1024 : Shape := ⟨3, ![8, 2048, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S16384x1024 : Shape := ⟨2, ![16384, 1024]⟩
abbrev S16384x512 : Shape := ⟨2, ![16384, 512]⟩
abbrev S2048x4096 : Shape := ⟨2, ![2048, 4096]⟩
abbrev S1024 : Shape := ⟨1, ![1024]⟩
abbrev S1024x1024 : Shape := ⟨2, ![1024, 1024]⟩
abbrev S6x1024 : Shape := ⟨2, ![6, 1024]⟩
abbrev S1024x512 : Shape := ⟨2, ![1024, 512]⟩
abbrev S256x512 : Shape := ⟨2, ![256, 512]⟩
abbrev S256x1024 : Shape := ⟨2, ![256, 1024]⟩
abbrev S1x512 : Shape := ⟨2, ![1, 512]⟩
abbrev S256 : Shape := ⟨1, ![256]⟩
abbrev S256x1 : Shape := ⟨2, ![256, 1]⟩
abbrev S512x1024 : Shape := ⟨2, ![512, 1024]⟩

abbrev nBuf : Space → Nat
  | .hbm => 19
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S2048x8x512, .f32⟩
  | .hbm, ⟨2, _⟩ => ⟨S8x2048x1024, .f32⟩
  | .hbm, ⟨3, _⟩ => ⟨S1x1024, .f32⟩
  | .hbm, ⟨4, _⟩ => ⟨S1x1024x1024, .f32⟩
  | .hbm, ⟨5, _⟩ => ⟨S1x6x1024, .f32⟩
  | .hbm, ⟨6, _⟩ => ⟨S1x1024x512, .f32⟩
  | .hbm, ⟨7, _⟩ => ⟨S16384x1024, .f32⟩
  | .hbm, ⟨8, _⟩ => ⟨S16384x512, .f32⟩
  | .hbm, ⟨9, _⟩ => ⟨S2048x4096, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S6x1024, .f32⟩
  | .hbm, ⟨15, _⟩ => ⟨S1024x512, .f32⟩
  | .hbm, ⟨16, _⟩ => ⟨S1024x512, .bf16⟩
  | .hbm, ⟨17, _⟩ => ⟨S16384x1024, .f32⟩
  | .hbm, ⟨18, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S6x1024, .f32⟩
  | .local _ .vmem, ⟨9, _⟩ => ⟨S1024x512, .bf16⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8x2048x512 : Shape := ⟨3, ![8, 2048, 512]⟩
abbrev S2048x8x512 : Shape := ⟨3, ![2048, 8, 512]⟩
abbrev S8x2048x1024 : Shape := ⟨3, ![8, 2048, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S1024 : Shape := ⟨1, ![1024]⟩
abbrev S6x1024 : Shape := ⟨2, ![6, 1024]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x512 : Shape := ⟨2, ![1024, 512]⟩
abbrev S16384x1024 : Shape := ⟨2, ![16384, 1024]⟩
abbrev S16384x512 : Shape := ⟨2, ![16384, 512]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x8x512, .f32⟩
  | .hbm, ⟨2, _⟩ => ⟨S8x2048x1024, .f32⟩
  | .hbm, ⟨3, _⟩ => ⟨S1x1024, .f32⟩
  | .hbm, ⟨4, _⟩ => ⟨S1x1024x1024, .f32⟩
  | .hbm, ⟨5, _⟩ => ⟨S1x6x1024, .f32⟩
  | .hbm, ⟨6, _⟩ => ⟨S1x1024x512, .f32⟩
  | .hbm, ⟨7, _⟩ => ⟨S1024, .f32⟩
  | .hbm, ⟨8, _⟩ => ⟨S6x1024, .f32⟩
  | .hbm, ⟨9, _⟩ => ⟨S8x2048x512, .f32⟩
  | .hbm, ⟨10, _⟩ => ⟨S512, .f32⟩
  | .hbm, ⟨11, _⟩ => ⟨S8x2048x512, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x512, .f32⟩
  | .hbm, ⟨23, _⟩ => ⟨S8x2048x512, .f32⟩
  | .hbm, ⟨24, _⟩ => ⟨S1x1x512, .f32⟩
  | .hbm, ⟨25, _⟩ => ⟨S8x2048x512, .f32⟩
  | .hbm, ⟨26, _⟩ => ⟨S8x2048x512, .f32⟩
  | .hbm, ⟨27, _⟩ => ⟨S512, .f32⟩
  | .hbm, ⟨28, _⟩ => ⟨S8x2048x512, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x512, .f32⟩
  | .hbm, ⟨40, _⟩ => ⟨S8x2048x512, .f32⟩
  | .hbm, ⟨41, _⟩ => ⟨S1x1x512, .f32⟩
  | .hbm, ⟨42, _⟩ => ⟨S8x2048x512, .f32⟩
  | .hbm, ⟨43, _⟩ => ⟨S8x2048x512, .f32⟩
  | .hbm, ⟨44, _⟩ => ⟨S8x2048x1024, .f32⟩
  | .hbm, ⟨45, _⟩ => ⟨S1024x1024, .f32⟩
  | .hbm, ⟨46, _⟩ => ⟨S8x2048x1024, .f32⟩
  | .hbm, ⟨47, _⟩ => ⟨S1x1024, .f32⟩
  | .hbm, ⟨48, _⟩ => ⟨S1024, .f32⟩
  | .hbm, ⟨49, _⟩ => ⟨S8x2048x1024, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S1x1024, .f32⟩
  | .hbm, ⟨67, _⟩ => ⟨S1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x1, .f32⟩
  | .hbm, ⟨79, _⟩ => ⟨S8x2048x1024, .f32⟩
  | .hbm, ⟨80, _⟩ => ⟨S8x2048x1024, .f32⟩
  | .hbm, ⟨81, _⟩ => ⟨S1x1x1024, .f32⟩
  | .hbm, ⟨82, _⟩ => ⟨S8x2048x1024, .f32⟩
  | .hbm, ⟨83, _⟩ => ⟨S8x2048x1024, .f32⟩
  | .hbm, ⟨84, _⟩ => ⟨S1024x512, .f32⟩
  | .hbm, ⟨85, _⟩ => ⟨S8x2048x512, .f32⟩
  | .hbm, ⟨86, _⟩ => ⟨S16384x1024, .f32⟩
  | .hbm, ⟨87, _⟩ => ⟨S16384x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Memkv.lean ====
abbrev S8x256x1024 : Shape := ⟨3, ![8, 256, 1024]⟩
abbrev S1x1024 : Shape := ⟨2, ![1, 1024]⟩
abbrev S1x1024x1024 : Shape := ⟨3, ![1, 1024, 1024]⟩
abbrev S2048x1024 : Shape := ⟨2, ![2048, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S2048x1024 : Shape := ⟨2, ![2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Ffn.lean ====
abbrev S16384x1024 : Shape := ⟨2, ![16384, 1024]⟩
abbrev S16384x512 : Shape := ⟨2, ![16384, 512]⟩
abbrev S1x6x1024 : Shape := ⟨3, ![1, 6, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S6x1024 : Shape := ⟨2, ![6, 1024]⟩
abbrev S512x1024 : Shape := ⟨2, ![512, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 14
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S1x6x1024, .f32⟩
  | .hbm, ⟨3, _⟩ => ⟨S1x512x1024, .f32⟩
  | .hbm, ⟨4, _⟩ => ⟨S1x1024x5632, .f32⟩
  | .hbm, ⟨5, _⟩ => ⟨S1x2816x1024, .f32⟩
  | .hbm, ⟨6, _⟩ => ⟨S6x1024, .f32⟩
  | .hbm, ⟨7, _⟩ => ⟨S512x1024, .f32⟩
  | .hbm, ⟨8, _⟩ => ⟨S512x1024, .bf16⟩
  | .hbm, ⟨9, _⟩ => ⟨S1024x5632, .f32⟩
  | .hbm, ⟨10, _⟩ => ⟨S1024x5632, .bf16⟩
  | .hbm, ⟨11, _⟩ => ⟨S2816x1024, .f32⟩
  | .hbm, ⟨12, _⟩ => ⟨S2816x1024, .bf16⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S6x1024, .f32⟩
  | .local _ .vmem, ⟨5, _⟩ => ⟨S512x1024, .bf16⟩
  | .local _ .vmem, ⟨6, _⟩ => ⟨S1024x5632, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S16384x512 : Shape := ⟨2, ![16384, 512]⟩
abbrev S1x6x1024 : Shape := ⟨3, ![1, 6, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S6x1024 : Shape := ⟨2, ![6, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S1x6x1024, .f32⟩
  | .hbm, ⟨3, _⟩ => ⟨S1x512x1024, .f32⟩
  | .hbm, ⟨4, _⟩ => ⟨S1x1024x5632, .f32⟩
  | .hbm, ⟨5, _⟩ => ⟨S1x2816x1024, .f32⟩
  | .hbm, ⟨6, _⟩ => ⟨S6x1024, .f32⟩
  | .hbm, ⟨7, _⟩ => ⟨S512x1024, .f32⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1024x5632, .f32⟩
  | .hbm, ⟨47, _⟩ => ⟨S16384x5632, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S2816x1024, .f32⟩
  | .hbm, ⟨61, _⟩ => ⟨S16384x1024, .f32⟩
  | .hbm, ⟨62, _⟩ => ⟨S1x1024, .f32⟩
  | .hbm, ⟨63, _⟩ => ⟨S1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== FfnS.lean ====
abbrev S128x1024 : Shape := ⟨2, ![128, 1024]⟩
abbrev S128x512 : Shape := ⟨2, ![128, 512]⟩
abbrev S1x6x1024 : Shape := ⟨3, ![1, 6, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S6x1024 : Shape := ⟨2, ![6, 1024]⟩
abbrev S512x1024 : Shape := ⟨2, ![512, 1024]⟩
abbrev S1024x5632 : Shape := ⟨2, ![1024, 5632]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩

abbrev nBuf : Space → Nat
  | .hbm => 14
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S1x6x1024, .f32⟩
  | .hbm, ⟨3, _⟩ => ⟨S1x512x1024, .f32⟩
  | .hbm, ⟨4, _⟩ => ⟨S1x1024x5632, .f32⟩
  | .hbm, ⟨5, _⟩ => ⟨S1x2816x1024, .f32⟩
  | .hbm, ⟨6, _⟩ => ⟨S6x1024, .f32⟩
  | .hbm, ⟨7, _⟩ => ⟨S512x1024, .f32⟩
  | .hbm, ⟨8, _⟩ => ⟨S512x1024, .bf16⟩
  | .hbm, ⟨9, _⟩ => ⟨S1024x5632, .f32⟩
  | .hbm, ⟨10, _⟩ => ⟨S1024x5632, .bf16⟩
  | .hbm, ⟨11, _⟩ => ⟨S2816x1024, .f32⟩
  | .hbm, ⟨12, _⟩ => ⟨S2816x1024, .bf16⟩
  | .hbm, ⟨13, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S6x1024, .f32⟩
  | .local _ .vmem, ⟨3, _⟩ => ⟨S512x1024, .bf16⟩
  | .local _ .vmem, ⟨4, _⟩ => ⟨S1024x5632, .bf16⟩
  | .local _ .vmem, ⟨5, _⟩ => ⟨S2816x1024, .bf16⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSRefIdeal.lean ====
abbrev S128x1024 : Shape := ⟨2, ![128, 1024]⟩
abbrev S128x512 : Shape := ⟨2, ![128, 512]⟩
abbrev S1x6x1024 : Shape := ⟨3, ![1, 6, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S6x1024 : Shape := ⟨2, ![6, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x5632 : Shape := ⟨2, ![1024, 5632]⟩
abbrev S128x5632 : Shape := ⟨2, ![128, 5632]⟩
abbrev S128x2816 : Shape := ⟨2, ![128, 2816]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S1x6x1024, .f32⟩
  | .hbm, ⟨3, _⟩ => ⟨S1x512x1024, .f32⟩
  | .hbm, ⟨4, _⟩ => ⟨S1x1024x5632, .f32⟩
  | .hbm, ⟨5, _⟩ => ⟨S1x2816x1024, .f32⟩
  | .hbm, ⟨6, _⟩ => ⟨S6x1024, .f32⟩
  | .hbm, ⟨7, _⟩ => ⟨S512x1024, .f32⟩
  | .hbm, ⟨8, _⟩ => ⟨S128x1024, .f32⟩
  | .hbm, ⟨9, _⟩ => ⟨S1x1024, .f32⟩
  | .hbm, ⟨10, _⟩ => ⟨S1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1x1024, .f32⟩
  | .hbm, ⟨29, _⟩ => ⟨S1024, .f32⟩
  | .hbm, ⟨30, _⟩ => ⟨S128x1024, .f32⟩
  | .hbm, ⟨31, _⟩ => ⟨S_, .f32⟩
  | .hbm, ⟨32, _⟩ => ⟨S128, .f32⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1024, .f32⟩
  | .hbm, ⟨42, _⟩ => ⟨S128x1024, .f32⟩
  | .hbm, ⟨43, _⟩ => ⟨S1x1024, .f32⟩
  | .hbm, ⟨44, _⟩ => ⟨S128x1024, .f32⟩
  | .hbm, ⟨45, _⟩ => ⟨S128x1024, .f32⟩
  | .hbm, ⟨46, _⟩ => ⟨S1024x5632, .f32⟩
  | .hbm, ⟨47, _⟩ => ⟨S128x5632, .f32⟩
  | .hbm, ⟨48, _⟩ => ⟨S128x2816, .f32⟩
  | .hbm, ⟨49, _⟩ => ⟨S128x2816, .f32⟩
  | .hbm, ⟨50, _⟩ => ⟨S128x2816, .f32⟩
  | .hbm, ⟨51, _⟩ => ⟨S_, .f32⟩
  | .hbm, ⟨52, _⟩ => ⟨S128x2816, .f32⟩
  | .hbm, ⟨53, _⟩ => ⟨S128x2816, .f32⟩
  | .hbm, ⟨54, _⟩ => ⟨S_, .f32⟩
  | .hbm, ⟨55, _⟩ => ⟨S128x2816, .f32⟩
  | .hbm, ⟨56, _⟩ => ⟨S128x2816, .f32⟩
  | .hbm, ⟨57, _⟩ => ⟨S128x2816, .f32⟩
  | .hbm, ⟨58, _⟩ => ⟨S128x2816, .f32⟩
  | .hbm, ⟨59, _⟩ => ⟨S128x2816, .f32⟩
  | .hbm, ⟨60, _⟩ => ⟨S2816x1024, .f32⟩
  | .hbm, ⟨61, _⟩ => ⟨S128x1024, .f32⟩
  | .hbm, ⟨62, _⟩ => ⟨S1x1024, .f32⟩
  | .hbm, ⟨63, _⟩ => ⟨S1024, .f32⟩
  | .hbm, ⟨64, _⟩ => ⟨S128x1024, .f32⟩
  | .hbm, ⟨65, _⟩ => ⟨S_, .f32⟩
  | .hbm, ⟨66, _⟩ => ⟨S128, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S_, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S128x1024, .f32⟩
  | .hbm, ⟨76, _⟩ => ⟨S128x1024, .f32⟩
  | .hbm, ⟨77, _⟩ => ⟨S1x1024, .f32⟩
  | .hbm, ⟨78, _⟩ => ⟨S128x1024, .f32⟩
  | .hbm, ⟨79, _⟩ => ⟨S128x1024, .f32⟩
  | .hbm, ⟨80, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Proof.Rows.lean ====
/- The row functions the layer is made of, over the extended reals. -/
module

public import Idealize.ShloMosaic.Lib.Pointwise
public import Idealize.ShloMosaic.Lib.Pipeline.ValueKit

@[expose] public section

noncomputable section

namespace Cert.Rows

open Idealize.ShloMosaic

/-- The small number a norm adds to the mean square. -/
abbrev eps : EReal := Ideal.ofBits .f32 0x358637BD#32

/-- The root-mean-square norm of the row `x` with the gain `g`: `len` is the row's length. -/
def rms {n : ℕ} (len : EReal) (x g : Fin n → EReal) (k : Fin n) : EReal :=
  x k * Ideal.rsqrt (Ideal.div (∑ j, x j * x j) len + eps) * g k

/-- The row `x` against one column `w` of a weight. -/
def dot {n : ℕ} (x w : Fin n → EReal) : EReal := ∑ k, x k * w k

theorem rms_congr {n : ℕ} {len : EReal} {x x' g g' : Fin n → EReal} (hx : ∀ k, x k = x' k) (hg : ∀ k, g k = g' k) (k : Fin n) :
    rms len x g k = rms len x' g' k := by
  rw [show x = x' from funext hx, show g = g' from funext hg]

theorem dot_congr {n : ℕ} {x x' w w' : Fin n → EReal} (hx : ∀ k, x k = x' k) (hw : ∀ k, w k = w' k) : dot x w = dot x' w' := by
  rw [show x = x' from funext hx, show w = w' from funext hw]

/-- The length of a model row. -/
abbrev len1024 : EReal := Ideal.ofBits .f32 0x44800000#32

/-- The length of half a model row. -/
abbrev len512 : EReal := Ideal.ofBits .f32 0x44000000#32

/-- The sigmoid-weighted value of a gate. -/
def silu (z : EReal) : EReal := z * Ideal.logistic z

/-- The residual stream after the cross-attention: `x` and the normed projection of the attention's row `o`. -/
def crossRow (x : Fin 1024 → EReal) (o : Fin 512 → EReal) (g : Fin 1024 → EReal) (xo : Fin 512 → Fin 1024 → EReal)
    (k : Fin 1024) : EReal :=
  x k + rms len1024 (fun l => dot o fun i => xo i l) g k

/-- The residual stream after the feed-forward part: `wl` and `wh` are the gate's and the value's columns of the first
    weight, `wo` the second. -/
def ffnRow (x : Fin 1024 → EReal) (o : Fin 512 → EReal) (g3 g4 g5 : Fin 1024 → EReal) (xo : Fin 512 → Fin 1024 → EReal)
    (wl wh : Fin 1024 → Fin 2816 → EReal) (wo : Fin 2816 → Fin 1024 → EReal) (k : Fin 1024) : EReal :=
  crossRow x o g3 xo k + rms len1024 (fun l => dot (fun j => silu (dot (rms len1024 (crossRow x o g3 xo) g4) fun i => wl i j)
    * dot (rms len1024 (crossRow x o g3 xo) g4) fun i => wh i j) fun j => wo j l) g5 k

theorem ffnRow_congr {x x' : Fin 1024 → EReal} {o o' : Fin 512 → EReal} {g3 g3' g4 g4' g5 g5' : Fin 1024 → EReal}
    {xo xo' : Fin 512 → Fin 1024 → EReal} {wl wl' wh wh' : Fin 1024 → Fin 2816 → EReal} {wo wo' : Fin 2816 → Fin 1024 → EReal}
    (hx : ∀ k, x k = x' k) (ho : ∀ k, o k = o' k) (h3 : ∀ k, g3 k = g3' k) (h4 : ∀ k, g4 k = g4' k) (h5 : ∀ k, g5 k = g5' k)
    (hxo : ∀ k l, xo k l = xo' k l) (hwl : ∀ k l, wl k l = wl' k l) (hwh : ∀ k l, wh k l = wh' k l)
    (hwo : ∀ k l, wo k l = wo' k l) (k : Fin 1024) :
    ffnRow x o g3 g4 g5 xo wl wh wo k = ffnRow x' o' g3' g4' g5' xo' wl' wh' wo' k := by
  rw [show x = x' from funext hx, show o = o' from funext ho, show g3 = g3' from funext h3, show g4 = g4' from funext h4,
    show g5 = g5' from funext h5, show xo = xo' from funext fun k => funext (hxo k), show wl = wl' from funext fun k => funext (hwl k),
    show wh = wh' from funext fun k => funext (hwh k), show wo = wo' from funext fun k => funext (hwo k)]

/-- A row of two halves against a column is the halves against the column's halves. -/
theorem dot_halves (x w : Fin 1024 → EReal) :
    dot x w = dot (fun k : Fin 512 => x ⟨k, by omega⟩) (fun k => w ⟨k, by omega⟩)
      + dot (fun k : Fin 512 => x ⟨512 + k, by omega⟩) (fun k => w ⟨512 + k, by omega⟩) := by
  unfold dot
  exact Fin.sum_univ_add (a := 512) (b := 512) fun k => x k * w k

/-- The residual stream after the merge: the attention's row `o` and the recurrence's row `s`, each normed by its half of
    the group gain `gg`, through the output weight `w`, normed with the gain `g` and added to `x`. -/
def mergeRow (o s : Fin 512 → EReal) (gg : Fin 1024 → EReal) (w : Fin 1024 → Fin 1024 → EReal) (x g : Fin 1024 → EReal)
    (k : Fin 1024) : EReal :=
  x k + rms len1024 (fun l => dot (rms len512 o fun i => gg ⟨i, by omega⟩) (fun i => w ⟨i, by omega⟩ l)
    + dot (rms len512 s fun i => gg ⟨512 + i, by omega⟩) (fun i => w ⟨512 + i, by omega⟩ l)) g k

theorem mergeRow_congr {o o' s s' : Fin 512 → EReal} {gg gg' : Fin 1024 → EReal} {w w' : Fin 1024 → Fin 1024 → EReal}
    {x x' g g' : Fin 1024 → EReal} (ho : ∀ k, o k = o' k) (hs : ∀ k, s k = s' k) (hgg : ∀ k, gg k = gg' k)
    (hw : ∀ k l, w k l = w' k l) (hx : ∀ k, x k = x' k) (hg : ∀ k, g k = g' k) (k : Fin 1024) :
    mergeRow o s gg w x g k = mergeRow o' s' gg' w' x' g' k := by
  rw [show o = o' from funext ho, show s = s' from funext hs, show gg = gg' from funext hgg,
    show w = w' from funext fun k => funext (hw k), show x = x' from funext hx, show g = g' from funext hg]

end Cert.Rows

end
-- ==== Proof.RowsDisc.lean ====
/- The discretization's scalars, over the extended reals. -/
module

public import proofs.«01_k».proof.Proof.Rows

@[expose] public section

noncomputable section

namespace Cert.Rows

open Idealize.ShloMosaic

/-- The real part of a state's factor over one step: `a` the decay rate, `b` the frequency, `l` the step size's logarithm. -/
def discRe (a b l : EReal) : EReal := Ideal.exp (a * Ideal.exp l) * Ideal.cos (b * Ideal.exp l)

/-- The imaginary part of a state's factor over one step. -/
def discIm (a b l : EReal) : EReal := Ideal.exp (a * Ideal.exp l) * Ideal.sin (b * Ideal.exp l)

/-- The real part of a state's input scale, from its factor `r`, `i` and its rate `a`, `b`. -/
def scaleRe (r i a b : EReal) : EReal := Ideal.div ((r - Ideal.ofBits .f32 0x3F800000#32) * a + i * b) (a * a + b * b)

/-- The imaginary part of a state's input scale. -/
def scaleIm (r i a b : EReal) : EReal := Ideal.div (i * a - (r - Ideal.ofBits .f32 0x3F800000#32) * b) (a * a + b * b)

/-- The real part of an input's weight into a state: the scale times the weight `p`, `q`. -/
def weightRe (a b l p q : EReal) : EReal :=
  scaleRe (discRe a b l) (discIm a b l) a b * p - scaleIm (discRe a b l) (discIm a b l) a b * q

/-- The imaginary part of an input's weight into a state. -/
def weightIm (a b l p q : EReal) : EReal :=
  scaleRe (discRe a b l) (discIm a b l) a b * q + scaleIm (discRe a b l) (discIm a b l) a b * p

end Cert.Rows

end
-- ==== Proof.SsmDiscRef.lean ====
/- What the reference of the discretization computes, element by element. -/
module

public import proofs.«01_k».proof.Proof.Gen.SsmDiscRefIdeal.Run
public import proofs.«01_k».proof.Proof.RowsDisc

@[expose] public section

set_option maxRecDepth 16384

noncomputable section

open Idealize.ShloMosaic Idealize.ShloMosaic.TcCoe Idealize.SL.Sem Cert.Rows

namespace Cert.SsmDiscRefIdeal

open Cert.SsmDiscRefIdeal.Gen

/-- The real part of the states' factor. -/
def refAr (A0 : FVec Ideal S1x32x64 .f32) (A1 : FVec Ideal S1x32x64 .f32) (A4 : FVec Ideal S1x32 .f32) : FVec Ideal S32x64 .f32 :=
  mulf (Host.exp (mulf (shapeCast S32x64 A0 shapeCasts_S1x32x64_S32x64) (broadcastInDim S32x64 ![0, 1] bcast_S32x1_S32x64_0_1 (broadcastInDim S32x1 ![0] bcast_S32_S32x1_0 (Host.exp (shapeCast S32 A4 shapeCasts_S1x32_S32)))))) (Host.cos (mulf (shapeCast S32x64 A1 shapeCasts_S1x32x64_S32x64) (broadcastInDim S32x64 ![0, 1] bcast_S32x1_S32x64_0_1 (broadcastInDim S32x1 ![0] bcast_S32_S32x1_0 (Host.exp (shapeCast S32 A4 shapeCasts_S1x32_S32))))))

/-- The imaginary part of the states' factor. -/
def refAi (A0 : FVec Ideal S1x32x64 .f32) (A1 : FVec Ideal S1x32x64 .f32) (A4 : FVec Ideal S1x32 .f32) : FVec Ideal S32x64 .f32 :=
  mulf (Host.exp (mulf (shapeCast S32x64 A0 shapeCasts_S1x32x64_S32x64) (broadcastInDim S32x64 ![0, 1] bcast_S32x1_S32x64_0_1 (broadcastInDim S32x1 ![0] bcast_S32_S32x1_0 (Host.exp (shapeCast S32 A4 shapeCasts_S1x32_S32)))))) (Host.sin (mulf (shapeCast S32x64 A1 shapeCasts_S1x32x64_S32x64) (broadcastInDim S32x64 ![0, 1] bcast_S32x1_S32x64_0_1 (broadcastInDim S32x1 ![0] bcast_S32_S32x1_0 (Host.exp (shapeCast S32 A4 shapeCasts_S1x32_S32))))))

/-- The real part of the inputs' scale. -/
def refCr (A0 : FVec Ideal S1x32x64 .f32) (A1 : FVec Ideal S1x32x64 .f32) (VrefAr : FVec Ideal S32x64 .f32) (VrefAi : FVec Ideal S32x64 .f32) : FVec Ideal S32x64 .f32 :=
  Host.divf (addf (mulf (subf VrefAr (broadcastInDim S32x64 ![] bcast_S_S32x64 (constant (F := Ideal) S_ .f32 0x3F800000#32))) (shapeCast S32x64 A0 shapeCasts_S1x32x64_S32x64)) (mulf VrefAi (shapeCast S32x64 A1 shapeCasts_S1x32x64_S32x64))) (addf (mulf (shapeCast S32x64 A0 shapeCasts_S1x32x64_S32x64) (shapeCast S32x64 A0 shapeCasts_S1x32x64_S32x64)) (mulf (shapeCast S32x64 A1 shapeCasts_S1x32x64_S32x64) (shapeCast S32x64 A1 shapeCasts_S1x32x64_S32x64)))

/-- The imaginary part of the inputs' scale. -/
def refCi (A0 : FVec Ideal S1x32x64 .f32) (A1 : FVec Ideal S1x32x64 .f32) (VrefAr : FVec Ideal S32x64 .f32) (VrefAi : FVec Ideal S32x64 .f32) : FVec Ideal S32x64 .f32 :=
  Host.divf (subf (mulf VrefAi (shapeCast S32x64 A0 shapeCasts_S1x32x64_S32x64)) (mulf (subf VrefAr (broadcastInDim S32x64 ![] bcast_S_S32x64 (constant (F := Ideal) S_ .f32 0x3F800000#32))) (shapeCast S32x64 A1 shapeCasts_S1x32x64_S32x64))) (addf (mulf (shapeCast S32x64 A0 shapeCasts_S1x32x64_S32x64) (shapeCast S32x64 A0 shapeCasts_S1x32x64_S32x64)) (mulf (shapeCast S32x64 A1 shapeCasts_S1x32x64_S32x64) (shapeCast S32x64 A1 shapeCasts_S1x32x64_S32x64)))

/-- The real part of the inputs' weight. -/
def refBr (A2 : FVec Ideal S1x32x64x16 .f32) (A3 : FVec Ideal S1x32x64x16 .f32) (VrefCr : FVec Ideal S32x64 .f32) (VrefCi : FVec Ideal S32x64 .f32) : FVec Ideal S32x16x64 .f32 :=
  transpose S32x16x64 [0, 2, 1] (subf (mulf (broadcastInDim S32x64x16 ![0, 1, 2] bcast_S32x64x1_S32x64x16_0_1_2 (broadcastInDim S32x64x1 ![0, 1] bcast_S32x64_S32x64x1_0_1 VrefCr)) (shapeCast S32x64x16 A2 shapeCasts_S1x32x64x16_S32x64x16)) (mulf (broadcastInDim S32x64x16 ![0, 1, 2] bcast_S32x64x1_S32x64x16_0_1_2 (broadcastInDim S32x64x1 ![0, 1] bcast_S32x64_S32x64x1_0_1 VrefCi)) (shapeCast S32x64x16 A3 shapeCasts_S1x32x64x16_S32x64x16))) transposes_S32x64x16_S32x16x64_0_2_1

/-- The imaginary part of the inputs' weight. -/
def refBi (A2 : FVec Ideal S1x32x64x16 .f32) (A3 : FVec Ideal S1x32x64x16 .f32) (VrefCr : FVec Ideal S32x64 .f32) (VrefCi : FVec Ideal S32x64 .f32) : FVec Ideal S32x16x64 .f32 :=
  transpose S32x16x64 [0, 2, 1] (addf (mulf (broadcastInDim S32x64x16 ![0, 1, 2] bcast_S32x64x1_S32x64x16_0_1_2 (broadcastInDim S32x64x1 ![0, 1] bcast_S32x64_S32x64x1_0_1 VrefCr)) (shapeCast S32x64x16 A3 shapeCasts_S1x32x64x16_S32x64x16)) (mulf (broadcastInDim S32x64x16 ![0, 1, 2] bcast_S32x64x1_S32x64x16_0_1_2 (broadcastInDim S32x64x1 ![0, 1] bcast_S32x64_S32x64x1_0_1 VrefCi)) (shapeCast S32x64x16 A2 shapeCasts_S1x32x64x16_S32x64x16))) transposes_S32x64x16_S32x16x64_0_2_1

/-- The states' factor the reference computes, real and imaginary, from its arguments. -/
def refOut0 (A0 A1 : FVec Ideal S1x32x64 .f32) (A4 : FVec Ideal S1x32 .f32) : FVec Ideal S32x64 .f32 := refAr A0 A1 A4
def refOut1 (A0 A1 : FVec Ideal S1x32x64 .f32) (A4 : FVec Ideal S1x32 .f32) : FVec Ideal S32x64 .f32 := refAi A0 A1 A4

/-- The inputs' weight the reference computes, real and imaginary, from its arguments. -/
def refOut2 (A0 A1 : FVec Ideal S1x32x64 .f32) (A2 A3 : FVec Ideal S1x32x64x16 .f32) (A4 : FVec Ideal S1x32 .f32) : FVec Ideal S32x16x64 .f32 := refBr A2 A3 (refCr A0 A1 (refAr A0 A1 A4) (refAi A0 A1 A4)) (refCi A0 A1 (refAr A0 A1 A4) (refAi A0 A1 A4))
def refOut3 (A0 A1 : FVec Ideal S1x32x64 .f32) (A2 A3 : FVec Ideal S1x32x64x16 .f32) (A4 : FVec Ideal S1x32 .f32) : FVec Ideal S32x16x64 .f32 := refBi A2 A3 (refCr A0 A1 (refAr A0 A1 A4) (refAi A0 A1 A4)) (refCi A0 A1 (refAr A0 A1 A4) (refAi A0 A1 A4))

theorem refOut0_at (A0 A1 : FVec Ideal S1x32x64 .f32) (A4 : FVec Ideal S1x32 .f32) (g : Fin 32) (p : Fin 64) : refOut0 A0 A1 A4 (ix2 g p) = discRe (A0 (ix3 0 g p)) (A1 (ix3 0 g p)) (A4 (ix2 0 g)) := by
  pointwise [refOut0, refAr, discRe]

theorem refOut1_at (A0 A1 : FVec Ideal S1x32x64 .f32) (A4 : FVec Ideal S1x32 .f32) (g : Fin 32) (p : Fin 64) : refOut1 A0 A1 A4 (ix2 g p) = discIm (A0 (ix3 0 g p)) (A1 (ix3 0 g p)) (A4 (ix2 0 g)) := by
  pointwise [refOut1, refAi, discIm]

theorem refCr_at (A0 A1 : FVec Ideal S1x32x64 .f32) (R I : FVec Ideal S32x64 .f32) (g : Fin 32) (p : Fin 64) :
    refCr A0 A1 R I (ix2 g p) = scaleRe (R (ix2 g p)) (I (ix2 g p)) (A0 (ix3 0 g p)) (A1 (ix3 0 g p)) := by
  pointwise [refCr, scaleRe]

theorem refCi_at (A0 A1 : FVec Ideal S1x32x64 .f32) (R I : FVec Ideal S32x64 .f32) (g : Fin 32) (p : Fin 64) :
    refCi A0 A1 R I (ix2 g p) = scaleIm (R (ix2 g p)) (I (ix2 g p)) (A0 (ix3 0 g p)) (A1 (ix3 0 g p)) := by
  pointwise [refCi, scaleIm]

theorem refBr_at (A2 A3 : FVec Ideal S1x32x64x16 .f32) (C D : FVec Ideal S32x64 .f32) (g : Fin 32) (i : Fin 16) (p : Fin 64) :
    refBr A2 A3 C D (ix3 g i p) = C (ix2 g p) * A2 (ix4 0 g p i) - D (ix2 g p) * A3 (ix4 0 g p i) := by
  pointwise [refBr]

theorem refBi_at (A2 A3 : FVec Ideal S1x32x64x16 .f32) (C D : FVec Ideal S32x64 .f32) (g : Fin 32) (i : Fin 16) (p : Fin 64) :
    refBi A2 A3 C D (ix3 g i p) = C (ix2 g p) * A3 (ix4 0 g p i) + D (ix2 g p) * A2 (ix4 0 g p i) := by
  pointwise [refBi]

theorem refOut2_at (A0 A1 : FVec Ideal S1x32x64 .f32) (A2 A3 : FVec Ideal S1x32x64x16 .f32) (A4 : FVec Ideal S1x32 .f32) (g : Fin 32) (i : Fin 16) (p : Fin 64) :
    refOut2 A0 A1 A2 A3 A4 (ix3 g i p) = weightRe (A0 (ix3 0 g p)) (A1 (ix3 0 g p)) (A4 (ix2 0 g)) (A2 (ix4 0 g p i)) (A3 (ix4 0 g p i)) := by
  have h0 := refOut0_at A0 A1 A4 g p
  have h1 := refOut1_at A0 A1 A4 g p
  unfold refOut0 at h0
  unfold refOut1 at h1
  unfold refOut2 weightRe
  simp only [refBr_at, refCr_at, refCi_at, h0, h1]

theorem refOut3_at (A0 A1 : FVec Ideal S1x32x64 .f32) (A2 A3 : FVec Ideal S1x32x64x16 .f32) (A4 : FVec Ideal S1x32 .f32) (g : Fin 32) (i : Fin 16) (p : Fin 64) :
    refOut3 A0 A1 A2 A3 A4 (ix3 g i p) = weightIm (A0 (ix3 0 g p)) (A1 (ix3 0 g p)) (A4 (ix2 0 g)) (A2 (ix4 0 g p i)) (A3 (ix4 0 g p i)) := by
  have h0 := refOut0_at A0 A1 A4 g p
  have h1 := refOut1_at A0 A1 A4 g p
  unfold refOut0 at h0
  unfold refOut1 at h1
  unfold refOut3 weightIm
  simp only [refBi_at, refCr_at, refCi_at, h0, h1]

end Cert.SsmDiscRefIdeal

end
-- ==== Proof.SsmDisc.lean ====
/- The discretization call: the four arrays it leaves are the reference's. -/
module

public import proofs.«01_k».proof.Proof.Gen.SsmDiscIdeal.Frame
public import proofs.«01_k».proof.Proof.SsmDiscRef

@[expose] public section

set_option maxRecDepth 16384

noncomputable section

open Idealize.ShloMosaic Idealize.ShloMosaic.TcCoe Idealize.SL.Sem Cert.Rows

namespace Cert.SsmDiscIdeal

open Cert.SsmDiscIdeal.Gen
open Idealize.ShloMosaic.Pipeline (Dat)

theorem pay7_at (X Y : Vec Ideal S32x64 .f32) (L : Vec Ideal S32x1 .f32) (g : Fin 32) (p : Fin 64) :
    k0_pay7 (F := Ideal) X Y L (ix2 g p) = discRe (X (ix2 g p)) (Y (ix2 g p)) (L (ix2 g 0)) := by
  pointwise [k0_pay7, k0_pay6, k0_pay5, k0_pay4, k0_pay3, discRe]

theorem pay8_at (X Y : Vec Ideal S32x64 .f32) (L : Vec Ideal S32x1 .f32) (g : Fin 32) (p : Fin 64) :
    k0_pay8 (F := Ideal) X Y L (ix2 g p) = discIm (X (ix2 g p)) (Y (ix2 g p)) (L (ix2 g 0)) := by
  pointwise [k0_pay8, k0_pay6, k0_pay5, k0_pay4, k0_pay3, discIm]

theorem pay10_at (X Y : Vec Ideal S32x64 .f32) (L : Vec Ideal S32x1 .f32) (g : Fin 32) (p : Fin 64) :
    k0_pay10 (F := Ideal) X Y L (ix2 g p) = scaleRe (discRe (X (ix2 g p)) (Y (ix2 g p)) (L (ix2 g 0))) (discIm (X (ix2 g p)) (Y (ix2 g p)) (L (ix2 g 0))) (X (ix2 g p)) (Y (ix2 g p)) := by
  rw [← pay7_at, ← pay8_at]
  pointwise [k0_pay10, k0_pay9, k0_pay4, k0_pay3, scaleRe]

theorem pay11_at (X Y : Vec Ideal S32x64 .f32) (L : Vec Ideal S32x1 .f32) (g : Fin 32) (p : Fin 64) :
    k0_pay11 (F := Ideal) X Y L (ix2 g p) = scaleIm (discRe (X (ix2 g p)) (Y (ix2 g p)) (L (ix2 g 0))) (discIm (X (ix2 g p)) (Y (ix2 g p)) (L (ix2 g 0))) (X (ix2 g p)) (Y (ix2 g p)) := by
  rw [← pay7_at, ← pay8_at]
  pointwise [k0_pay11, k0_pay9, k0_pay4, k0_pay3, scaleIm]

theorem pay1_at (D : FVec Ideal S32x64 .f32) (C : FVec Ideal S32x64 .f32) (P Q : FVec Ideal S32x16x64 .f32)
    (g : Fin 32) (i : Fin 16) (p : Fin 64) :
    k0_pay1 (F := Ideal) D P Q (shapeCast S32x1x64 C shapeCasts_S32x64_S32x1x64) (ix3 g i p)
      = C (ix2 g p) * P (ix3 g i p) - D (ix2 g p) * Q (ix3 g i p) := by
  pointwise [k0_pay1]

theorem pay2_at (C D : FVec Ideal S32x64 .f32) (P Q : FVec Ideal S32x16x64 .f32) (g : Fin 32) (i : Fin 16) (p : Fin 64) :
    k0_pay2 (F := Ideal) C D P Q (ix3 g i p)
      = C (ix2 g p) * Q (ix3 g i p) + D (ix2 g p) * P (ix3 g i p) := by
  pointwise [k0_pay2]

theorem out5_at (X Y : Vec Ideal S32x64 .f32) (L : Vec Ideal S32x1 .f32) (P Q : Vec Ideal S32x16x64 .f32) (g : Fin 32) (p : Fin 64) : out0_5 (F := Ideal) X Y L P Q (ix2 g p) = discRe (X (ix2 g p)) (Y (ix2 g p)) (L (ix2 g 0)) := by
  frame_out
  exact pay7_at X Y L g p

theorem out6_at (X Y : Vec Ideal S32x64 .f32) (L : Vec Ideal S32x1 .f32) (P Q : Vec Ideal S32x16x64 .f32) (g : Fin 32) (p : Fin 64) : out0_6 (F := Ideal) X Y L P Q (ix2 g p) = discIm (X (ix2 g p)) (Y (ix2 g p)) (L (ix2 g 0)) := by
  frame_out
  exact pay8_at X Y L g p

theorem out7_at (X Y : Vec Ideal S32x64 .f32) (L : Vec Ideal S32x1 .f32) (P Q : Vec Ideal S32x16x64 .f32) (g : Fin 32) (i : Fin 16) (p : Fin 64) :
    out0_7 (F := Ideal) X Y L P Q (ix3 g i p) = weightRe (X (ix2 g p)) (Y (ix2 g p)) (L (ix2 g 0)) (P (ix3 g i p)) (Q (ix3 g i p)) := by
  frame_out
  unfold weightRe
  rw [← pay10_at, ← pay11_at]
  refine (pay1_at _ _ _ _ g i p).trans ?_
  pointwise [k0_pay15, k0_pay16, k0_pay17, k0_pay12, k0_pay13]
  simp only [pay11_at]
  pointwise

theorem out8_at (X Y : Vec Ideal S32x64 .f32) (L : Vec Ideal S32x1 .f32) (P Q : Vec Ideal S32x16x64 .f32) (g : Fin 32) (i : Fin 16) (p : Fin 64) :
    out0_8 (F := Ideal) X Y L P Q (ix3 g i p) = weightIm (X (ix2 g p)) (Y (ix2 g p)) (L (ix2 g 0)) (P (ix3 g i p)) (Q (ix3 g i p)) := by
  frame_out
  unfold weightIm
  rw [← pay10_at, ← pay11_at]
  refine (pay2_at _ _ _ _ g i p).trans ?_
  pointwise [k0_pay15, k0_pay16, k0_pay17, k0_pay12, k0_pay13]
  simp only [pay11_at]
  pointwise

variable (m : (ℓ : Loc nD τ sig) → Buf (Elt Ideal) ℓ)

/-- The one grid point stages every array whole. -/
theorem idx : ∀ t : Fin cfg0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0] :=
  (by decide +kernel : ∀ t : Fin grid0.N, _)

/-- The call reads the decay rates whole. -/
theorem ar_at (c : Dev nD) (t : Fin cfg0.N) (g : Fin 32) (p : Fin 64) : iblk m c 0 t (ix2 g p) = m ((c : Thread nD τ).loc main_arg0) (ix3 0 g p) := by
  blk_simp [iblk]
  entry_read
  pointwise
  blk_ext [idx t]

/-- The call reads the frequencies whole. -/
theorem ai_at (c : Dev nD) (t : Fin cfg0.N) (g : Fin 32) (p : Fin 64) : iblk m c 1 t (ix2 g p) = m ((c : Thread nD τ).loc main_arg1) (ix3 0 g p) := by
  blk_simp [iblk]
  entry_read
  pointwise
  blk_ext [idx t]

/-- The call reads the step sizes whole, a group a row. -/
theorem dt_at (c : Dev nD) (t : Fin cfg0.N) (g : Fin 32) : iblk m c 2 t (ix2 g 0) = m ((c : Thread nD τ).loc main_arg4) (ix2 0 g) := by
  blk_simp [iblk]
  entry_read
  pointwise
  blk_ext [idx t]

/-- The call reads the inputs' real weight, transposed. -/
theorem br_at (c : Dev nD) (t : Fin cfg0.N) (g : Fin 32) (i : Fin 16) (p : Fin 64) : iblk m c 3 t (ix3 g i p) = m ((c : Thread nD τ).loc main_arg2) (ix4 0 g p i) := by
  blk_simp [iblk]
  entry_read
  pointwise
  blk_ext [idx t]

/-- The call reads the inputs' imaginary weight, transposed. -/
theorem bi_at (c : Dev nD) (t : Fin cfg0.N) (g : Fin 32) (i : Fin 16) (p : Fin 64) : iblk m c 4 t (ix3 g i p) = m ((c : Thread nD τ).loc main_arg3) (ix4 0 g p i) := by
  blk_simp [iblk]
  entry_read
  pointwise
  blk_ext [idx t]

/-- Array 0 after the run is the reference's. -/
theorem final0 (c : Dev nD) :
    (dats m 0 c).arrAt 5 (cfgs 0).N = Cert.SsmDiscRefIdeal.refOut0 (m ((c : Thread nD τ).loc main_arg0)) (m ((c : Thread nD τ).loc main_arg1)) (m ((c : Thread nD τ).loc main_arg4)) := by
  refine (dats m 0 c).arrAt_eq_of_covers 5 _ (by decide +kernel) fun t _ y => ?_
  blk_simp
  rw [after0_5]
  idx_vars y
  have he : (((cfg0.win 5).blk t).view.emb (ix2 y0 y1) : S32x64.Idx) = ix2 y0 y1 := by
    blk_ext [idx t]
  refine (out5_at _ _ _ _ _ y0 y1).trans (Eq.trans ?_ ((congrArg _ he).trans (Cert.SsmDiscRefIdeal.refOut0_at _ _ _ y0 y1)).symm)
  rw [ar_at m c t y0 y1, ai_at m c t y0 y1, dt_at m c t y0]

/-- Array 1 after the run is the reference's. -/
theorem final1 (c : Dev nD) :
    (dats m 0 c).arrAt 6 (cfgs 0).N = Cert.SsmDiscRefIdeal.refOut1 (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]
  idx_vars y
  have he : (((cfg0.win 6).blk t).view.emb (ix2 y0 y1) : S32x64.Idx) = ix2 y0 y1 := by
    blk_ext [idx t]
  refine (out6_at _ _ _ _ _ y0 y1).trans (Eq.trans ?_ ((congrArg _ he).trans (Cert.SsmDiscRefIdeal.refOut1_at _ _ _ y0 y1)).symm)
  rw [ar_at m c t y0 y1, ai_at m c t y0 y1, dt_at m c t y0]

/-- Array 2 after the run is the reference's. -/
theorem final2 (c : Dev nD) :
    (dats m 0 c).arrAt 7 (cfgs 0).N = Cert.SsmDiscRefIdeal.refOut2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have he : (((cfg0.win 7).blk t).view.emb (ix3 y0 y1 y2) : S32x16x64.Idx) = ix3 y0 y1 y2 := by
    blk_ext [idx t]
  refine (out7_at _ _ _ _ _ y0 y1 y2).trans (Eq.trans ?_ ((congrArg _ he).trans (Cert.SsmDiscRefIdeal.refOut2_at _ _ _ _ _ y0 y1 y2)).symm)
  rw [ar_at m c t y0 y2, ai_at m c t y0 y2, dt_at m c t y0, br_at m c t y0 y1 y2, bi_at m c t y0 y1 y2]

/-- Array 3 after the run is the reference's. -/
theorem final3 (c : Dev nD) :
    (dats m 0 c).arrAt 8 (cfgs 0).N = Cert.SsmDiscRefIdeal.refOut3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  idx_vars y
  have he : (((cfg0.win 8).blk t).view.emb (ix3 y0 y1 y2) : S32x16x64.Idx) = ix3 y0 y1 y2 := by
    blk_ext [idx t]
  refine (out8_at _ _ _ _ _ y0 y1 y2).trans (Eq.trans ?_ ((congrArg _ he).trans (Cert.SsmDiscRefIdeal.refOut3_at _ _ _ _ _ y0 y1 y2)).symm)
  rw [ar_at m c t y0 y2, ai_at m c t y0 y2, dt_at m c t y0, br_at m c t y0 y1 y2, bi_at m c t y0 y1 y2]

end Cert.SsmDiscIdeal

end
-- ==== Proof.SsmDiscClaims.lean ====
/- The claims about SsmDisc: the three programs' frames, and the call's arrays equal to the reference's. -/
module

public import proofs.«01_k».proof.Defs
public import proofs.«01_k».proof.Proof.Gen.SsmDisc.Frame
public import proofs.«01_k».proof.Proof.Gen.SsmDiscRefIdeal.Run
public import proofs.«01_k».proof.Proof.SsmDisc

@[expose] public section

set_option maxRecDepth 16384

noncomputable section

namespace Cert.Proof.SsmDiscClaims

open Idealize.ShloMosaic Idealize.SL.Sem

/-- The program, its idealization and the reference run to the end and leave their arguments as they were. -/
theorem frame : Cert.quiescent_SsmDisc := fun m g _ => Cert.SsmDisc.Gen.frame m g

theorem frameIdeal : Cert.quiescent_SsmDiscIdeal := fun m g _ => Cert.SsmDiscIdeal.Gen.frame m g

theorem frameRef : Cert.quiescent_SsmDiscRefIdeal := by
  intro m g _
  exact (θ_run Cert.SsmDiscRefIdeal.defs _ _).mono (fun r h => ⟨fun c => (h c).2.2.2.2, sem_eq_zero_of_no_sems (by decide) r.2⟩)
    (Cert.SsmDiscRefIdeal.Value.run (F := Ideal) m g)

/-- From equal arguments the call and the reference end with equal results. -/
theorem algebraic : Cert.algebraic_SsmDiscIdeal_SsmDiscRefIdeal := by
  pair_intro
  · run_from Cert.SsmDiscIdeal.Gen.run_main m g
  · run_from Cert.SsmDiscRefIdeal.Value.run m' g'
    · obtain ⟨h0, h1, h2, h3, h4⟩ := hagree c
      refine Eq.trans ?_ (Cert.SsmDiscIdeal.final0 m c).symm
      rw [← h0, ← h1, ← h4]
      rfl
    · obtain ⟨h0, h1, h2, h3, h4⟩ := hagree c
      refine Eq.trans ?_ (Cert.SsmDiscIdeal.final1 m c).symm
      rw [← h0, ← h1, ← h4]
      rfl
    · obtain ⟨h0, h1, h2, h3, h4⟩ := hagree c
      refine Eq.trans ?_ (Cert.SsmDiscIdeal.final2 m c).symm
      rw [← h0, ← h1, ← h2, ← h3, ← h4]
      rfl
    · obtain ⟨h0, h1, h2, h3, h4⟩ := hagree c
      refine Eq.trans ?_ (Cert.SsmDiscIdeal.final3 m c).symm
      rw [← h0, ← h1, ← h2, ← h3, ← h4]
      rfl

end Cert.Proof.SsmDiscClaims

end
-- ==== Proof.RowsIn.lean ====
/- The input projection's layouts, over the extended reals. -/
module

public import proofs.«01_k».proof.Proof.Rows

@[expose] public section

noncomputable section

namespace Cert.Rows

open Idealize.ShloMosaic

/-- A branch's keys and values lie keys of the two heads, then values of the two heads; by head, a head's keys and values lie
    side by side. The element of the first layout at position `j` of the second. -/
def byGroup (j : Fin 256) : Fin 256 := ⟨(j : ℕ) / 64 % 2 * 128 + (j : ℕ) / 128 * 64 + (j : ℕ) % 64, by omega⟩

/-- A row of gate lanes: of each head's 128 lanes the first twelve are the sigmoids of its gates, the others one half. -/
def gateLane (z : Fin 24 → EReal) (j : Fin 256) : EReal :=
  if h : (j : ℕ) % 128 < 12 then Ideal.logistic (z ⟨(j : ℕ) / 128 * 12 + (j : ℕ) % 128, by omega⟩)
  else Ideal.ofBits .f32 0x3F000000#32

/-- The input weight's columns packed: queries, the three branches' keys and values, the last two by head, the gates in two
    rows of 128 lanes with zero columns in the spare ones, the recurrence's columns. -/
def packed (w : Fin 1024 → Fin 1816 → EReal) (k : Fin 1024) (l : Fin 2560) : EReal :=
  if h0 : (l : ℕ) < 1280 then w k ⟨l, by omega⟩
  else if h1 : (l : ℕ) < 1536 then w k ⟨768 + byGroup ⟨l - 1280, by omega⟩, by omega⟩
  else if h2 : (l : ℕ) < 1792 then w k ⟨1024 + byGroup ⟨l - 1536, by omega⟩, by omega⟩
  else if h3 : (l : ℕ) < 2048 then
    if h : ((l : ℕ) - 1792) % 128 < 12 then w k ⟨1280 + (((l : ℕ) - 1792) / 128 * 12 + ((l : ℕ) - 1792) % 128), by omega⟩ else 0
  else w k ⟨1304 + (l - 2048), by omega⟩

/-- A packed column before the by-head ones is the column. -/
theorem pack_left (w : Fin 1024 → Fin 1816 → EReal) (k : Fin 1024) (l : Fin 2560) (l' : Fin 1816) (e : (l : ℕ) = l') (h : (l : ℕ) < 1280) :
    packed w k l = w k l' := by
  unfold packed
  rw [dif_pos h]
  exact congrArg (w k) (Fin.ext e)

/-- A packed column of the selected branch by head. -/
theorem pack_sel (w : Fin 1024 → Fin 1816 → EReal) (k : Fin 1024) (l : Fin 2560) (l' : Fin 1816) (j : Fin 256) (e : (l : ℕ) = 1280 + j)
    (e' : (l' : ℕ) = 768 + byGroup j) : packed w k l = w k l' := by
  unfold packed
  rw [dif_neg (by omega), dif_pos (by omega)]
  exact congrArg (w k) (Fin.ext (by rw [e']; simp [e]))

/-- A packed column of the window branch by head. -/
theorem pack_win (w : Fin 1024 → Fin 1816 → EReal) (k : Fin 1024) (l : Fin 2560) (l' : Fin 1816) (j : Fin 256) (e : (l : ℕ) = 1536 + j)
    (e' : (l' : ℕ) = 1024 + byGroup j) : packed w k l = w k l' := by
  unfold packed
  rw [dif_neg (by omega), dif_neg (by omega), dif_pos (by omega)]
  exact congrArg (w k) (Fin.ext (by rw [e']; simp [e]))

/-- A packed column of a gate. -/
theorem pack_gate (w : Fin 1024 → Fin 1816 → EReal) (k : Fin 1024) (l : Fin 2560) (l' : Fin 1816) (j : Fin 256) (h : (j : ℕ) % 128 < 12)
    (e : (l : ℕ) = 1792 + j) (e' : (l' : ℕ) = 1280 + ((j : ℕ) / 128 * 12 + (j : ℕ) % 128)) : packed w k l = w k l' := by
  unfold packed
  rw [dif_neg (by omega), dif_neg (by omega), dif_neg (by omega), dif_pos (by omega), dif_pos (by omega)]
  exact congrArg (w k) (Fin.ext (by rw [e']; simp [e]))

/-- A packed column of a spare gate lane is zero. -/
theorem pack_spare (w : Fin 1024 → Fin 1816 → EReal) (k : Fin 1024) (l : Fin 2560) (j : Fin 256) (h : ¬ (j : ℕ) % 128 < 12)
    (e : (l : ℕ) = 1792 + j) : packed w k l = 0 := by
  unfold packed
  rw [dif_neg (by omega), dif_neg (by omega), dif_neg (by omega), dif_pos (by omega), dif_neg (by omega)]

/-- A packed column of the recurrence. -/
theorem pack_u (w : Fin 1024 → Fin 1816 → EReal) (k : Fin 1024) (l : Fin 2560) (l' : Fin 1816) (j : Fin 512) (e : (l : ℕ) = 2048 + j)
    (e' : (l' : ℕ) = 1304 + j) : packed w k l = w k l' := by
  unfold packed
  rw [dif_neg (by omega), dif_neg (by omega), dif_neg (by omega), dif_neg (by omega)]
  exact congrArg (w k) (Fin.ext (by rw [e']; simp [e]))

theorem dot_zero (x : Fin 1024 → EReal) : dot x (fun _ => 0) = 0 := by
  simp [dot]

/-- The sigmoid of zero is one half. -/
theorem logistic_zero : Ideal.logistic 0 = Ideal.ofBits .f32 0x3F000000#32 := by
  have h2 : (1 : EReal) + 1 = ((2 : ℝ) : EReal) := by norm_cast
  have h : Ideal.ofBits .f32 0x3F000000#32 = (((1 : ℝ) / 2 : ℝ) : EReal) := by
    simp [Ideal.ofBits, Ideal.ieee]
    rw [← EReal.coe_mul]
    exact congrArg _ (by norm_num)
  rw [h, Ideal.logistic, neg_zero, show Ideal.exp 0 = 1 by rw [← EReal.coe_zero, Ideal.exp_coe, Real.exp_zero, EReal.coe_one], h2, Ideal.div,
    if_neg (by norm_cast), one_mul, ← EReal.coe_inv, one_div]

end Cert.Rows

end
-- ==== Proof.InprojRef.lean ====
/- What the reference of the input projection computes, row by row. -/
module

public import proofs.«01_k».proof.Proof.Gen.InprojRefIdeal.Run
public import proofs.«01_k».proof.Proof.RowsIn

@[expose] public section

set_option maxRecDepth 16384

noncomputable section

open Idealize.ShloMosaic Idealize.ShloMosaic.TcCoe Idealize.SL.Sem Cert.Rows

namespace Cert.InprojRefIdeal

open Cert.InprojRefIdeal.Gen

/-- The normed rows through the input weight. -/
def refZ (A0 : FVec Ideal S8x2048x1024 .f32) (A1 : FVec Ideal S1x6x1024 .f32) (A2 : FVec Ideal S1x1024x1816 .f32) : FVec Ideal S8x2048x1816 .f32 :=
  Host.dotGeneral dot_S8x2048x1024_S1024x1816_S8x2048x1816_2_0_01_1_n_n none (mulf (mulf A0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf A0 A0) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1x1024 ![0, 0, 0] A1 slices_S1x6x1024_S1x1x1024_0_0_0) shapeCasts_S1x1x1024_S1024)))) (shapeCast S1024x1816 A2 shapeCasts_S1x1024x1816_S1024x1816)

/-- The queries. -/
def refQ (VrefZ : FVec Ideal S8x2048x1816 .f32) : FVec Ideal S16384x512 .f32 :=
  shapeCast S16384x512 (extractStridedSlice S8x2048x512 ![0, 0, 0] VrefZ slices_S8x2048x1816_S8x2048x512_0_0_0) shapeCasts_S8x2048x512_S16384x512

/-- The keys and values of the compressed branch. -/
def refKc (VrefZ : FVec Ideal S8x2048x1816 .f32) : FVec Ideal S16384x256 .f32 :=
  shapeCast S16384x256 (extractStridedSlice S8x2048x256 ![0, 0, 512] VrefZ slices_S8x2048x1816_S8x2048x256_0_0_512) shapeCasts_S8x2048x256_S16384x256

/-- The keys and values of the selected branch. -/
def refKs (VrefZ : FVec Ideal S8x2048x1816 .f32) : FVec Ideal S16384x256 .f32 :=
  shapeCast S16384x256 (extractStridedSlice S8x2048x256 ![0, 0, 768] VrefZ slices_S8x2048x1816_S8x2048x256_0_0_768) shapeCasts_S8x2048x256_S16384x256

/-- The keys and values of the window branch. -/
def refKw (VrefZ : FVec Ideal S8x2048x1816 .f32) : FVec Ideal S16384x256 .f32 :=
  shapeCast S16384x256 (extractStridedSlice S8x2048x256 ![0, 0, 1024] VrefZ slices_S8x2048x1816_S8x2048x256_0_0_1024) shapeCasts_S8x2048x256_S16384x256

/-- The selected branch's keys and values, a head's side by side. -/
def refKsg (VrefZ : FVec Ideal S8x2048x1816 .f32) : FVec Ideal S16384x256 .f32 :=
  shapeCast S16384x256 (transpose S8x2048x2x2x64 [0, 1, 3, 2, 4] (shapeCast S8x2048x2x2x64 (extractStridedSlice S8x2048x256 ![0, 0, 768] VrefZ slices_S8x2048x1816_S8x2048x256_0_0_768) shapeCasts_S8x2048x256_S8x2048x2x2x64) transposes_S8x2048x2x2x64_S8x2048x2x2x64_0_1_3_2_4) shapeCasts_S8x2048x2x2x64_S16384x256

/-- The window branch's keys and values, a head's side by side. -/
def refKwg (VrefZ : FVec Ideal S8x2048x1816 .f32) : FVec Ideal S16384x256 .f32 :=
  shapeCast S16384x256 (transpose S8x2048x2x2x64 [0, 1, 3, 2, 4] (shapeCast S8x2048x2x2x64 (extractStridedSlice S8x2048x256 ![0, 0, 1024] VrefZ slices_S8x2048x1816_S8x2048x256_0_0_1024) shapeCasts_S8x2048x256_S8x2048x2x2x64) transposes_S8x2048x2x2x64_S8x2048x2x2x64_0_1_3_2_4) shapeCasts_S8x2048x2x2x64_S16384x256

/-- The gates, a head a row of 128 lanes, the spare lanes one half. -/
def refGate (VrefZ : FVec Ideal S8x2048x1816 .f32) : FVec Ideal S16384x256 .f32 :=
  shapeCast S16384x256 (pad S8x2048x2x128 ![0, 0, 0, 0] ![0, 0, 0, 116] ![0, 0, 0, 0] (shapeCast S8x2048x2x12 (Host.divf (broadcastInDim S8x2048x24 ![] bcast_S_S8x2048x24 (constant (F := Ideal) S_ .f32 0x3F800000#32)) (addf (broadcastInDim S8x2048x24 ![] bcast_S_S8x2048x24 (constant (F := Ideal) S_ .f32 0x3F800000#32)) (Host.exp (Host.negf (extractStridedSlice S8x2048x24 ![0, 0, 1280] VrefZ slices_S8x2048x1816_S8x2048x24_0_0_1280))))) shapeCasts_S8x2048x24_S8x2048x2x12) (id (constant (F := Ideal) S_ .f32 0x3F000000#32)) pads_S8x2048x2x12_S8x2048x2x128_000_000_000_01160 h_S_) shapeCasts_S8x2048x2x128_S16384x256

/-- The recurrence's inputs, a step a row. -/
def refU (VrefZ : FVec Ideal S8x2048x1816 .f32) : FVec Ideal S2048x4096 .f32 :=
  shapeCast S2048x4096 (transpose S2048x8x512 [1, 0, 2] (extractStridedSlice S8x2048x512 ![0, 0, 1304] VrefZ slices_S8x2048x1816_S8x2048x512_0_0_1304) transposes_S8x2048x512_S2048x8x512_1_0_2) shapeCasts_S2048x8x512_S2048x4096

theorem refZ_at (A0 : FVec Ideal S8x2048x1024 .f32) (A1 : FVec Ideal S1x6x1024 .f32) (A2 : FVec Ideal S1x1024x1816 .f32) (b : Fin 8) (s : Fin 2048) (l : Fin 1816) :
    refZ A0 A1 A2 (ix3 b s l)
      = dot (rms len1024 (fun i => A0 (ix3 b s i)) fun i => A1 (ix3 0 0 i)) fun i => A2 (ix3 0 i l) := by
  pointwise [refZ, rms, dot]

theorem refQ_at (Z : FVec Ideal S8x2048x1816 .f32) (b : Fin 8) (s : Fin 2048) (r : Fin 16384) (hr : (r : ℕ) = b * 2048 + s) (j : Fin 512) :
    refQ Z (ix2 r j) = Z (ix3 b s ⟨j, by omega⟩) := by
  pointwise [refQ]
  exact congrArg Z (by idx_ext <;> simp [byGroup] <;> omega)

theorem refKc_at (Z : FVec Ideal S8x2048x1816 .f32) (b : Fin 8) (s : Fin 2048) (r : Fin 16384) (hr : (r : ℕ) = b * 2048 + s) (j : Fin 256) :
    refKc Z (ix2 r j) = Z (ix3 b s ⟨512 + j, by omega⟩) := by
  pointwise [refKc]
  exact congrArg Z (by idx_ext <;> simp [byGroup] <;> omega)

theorem refKs_at (Z : FVec Ideal S8x2048x1816 .f32) (b : Fin 8) (s : Fin 2048) (r : Fin 16384) (hr : (r : ℕ) = b * 2048 + s) (j : Fin 256) :
    refKs Z (ix2 r j) = Z (ix3 b s ⟨768 + j, by omega⟩) := by
  pointwise [refKs]
  exact congrArg Z (by idx_ext <;> simp [byGroup] <;> omega)

theorem refKw_at (Z : FVec Ideal S8x2048x1816 .f32) (b : Fin 8) (s : Fin 2048) (r : Fin 16384) (hr : (r : ℕ) = b * 2048 + s) (j : Fin 256) :
    refKw Z (ix2 r j) = Z (ix3 b s ⟨1024 + j, by omega⟩) := by
  pointwise [refKw]
  exact congrArg Z (by idx_ext <;> simp [byGroup] <;> omega)

theorem refKsg_at (Z : FVec Ideal S8x2048x1816 .f32) (b : Fin 8) (s : Fin 2048) (r : Fin 16384) (hr : (r : ℕ) = b * 2048 + s) (j : Fin 256) :
    refKsg Z (ix2 r j) = Z (ix3 b s ⟨768 + byGroup j, by omega⟩) := by
  pointwise [refKsg]
  exact congrArg Z (by idx_ext <;> simp [byGroup] <;> omega)

theorem refKwg_at (Z : FVec Ideal S8x2048x1816 .f32) (b : Fin 8) (s : Fin 2048) (r : Fin 16384) (hr : (r : ℕ) = b * 2048 + s) (j : Fin 256) :
    refKwg Z (ix2 r j) = Z (ix3 b s ⟨1024 + byGroup j, by omega⟩) := by
  pointwise [refKwg]
  exact congrArg Z (by idx_ext <;> simp [byGroup] <;> omega)

theorem refGate_at (Z : FVec Ideal S8x2048x1816 .f32) (b : Fin 8) (s : Fin 2048) (r : Fin 16384) (hr : (r : ℕ) = b * 2048 + s) (j : Fin 256) :
    refGate Z (ix2 r j) = gateLane (fun g => Z (ix3 b s ⟨1280 + g, by omega⟩)) j := by
  pointwise [refGate, gateLane, Ideal.logistic]
  split_ifs <;> first | rfl | omega | skip
  refine congrArg (fun z => Ideal.div _ (_ + Ideal.exp (-z))) (congrArg Z ?_)
  idx_ext <;> simp <;> omega

theorem refU_at (Z : FVec Ideal S8x2048x1816 .f32) (b : Fin 8) (s : Fin 2048) (l : Fin 4096) (j : Fin 512) (hl : (l : ℕ) = b * 512 + j) :
    refU Z (ix2 s l) = Z (ix3 b s ⟨1304 + j, by omega⟩) := by
  pointwise [refU]
  exact congrArg Z (by idx_ext <;> simp <;> omega)

/-- The queries, from the arguments. -/
def refQOut (A0 : FVec Ideal S8x2048x1024 .f32) (A1 : FVec Ideal S1x6x1024 .f32) (A2 : FVec Ideal S1x1024x1816 .f32) : FVec Ideal S16384x512 .f32 :=
  refQ (refZ A0 A1 A2)

/-- The keys and values of the compressed branch, from the arguments. -/
def refKcOut (A0 : FVec Ideal S8x2048x1024 .f32) (A1 : FVec Ideal S1x6x1024 .f32) (A2 : FVec Ideal S1x1024x1816 .f32) : FVec Ideal S16384x256 .f32 :=
  refKc (refZ A0 A1 A2)

/-- The keys and values of the selected branch, from the arguments. -/
def refKsOut (A0 : FVec Ideal S8x2048x1024 .f32) (A1 : FVec Ideal S1x6x1024 .f32) (A2 : FVec Ideal S1x1024x1816 .f32) : FVec Ideal S16384x256 .f32 :=
  refKs (refZ A0 A1 A2)

/-- The keys and values of the window branch, from the arguments. -/
def refKwOut (A0 : FVec Ideal S8x2048x1024 .f32) (A1 : FVec Ideal S1x6x1024 .f32) (A2 : FVec Ideal S1x1024x1816 .f32) : FVec Ideal S16384x256 .f32 :=
  refKw (refZ A0 A1 A2)

/-- The selected branch's keys and values, a head's side by side, from the arguments. -/
def refKsgOut (A0 : FVec Ideal S8x2048x1024 .f32) (A1 : FVec Ideal S1x6x1024 .f32) (A2 : FVec Ideal S1x1024x1816 .f32) : FVec Ideal S16384x256 .f32 :=
  refKsg (refZ A0 A1 A2)

/-- The window branch's keys and values, a head's side by side, from the arguments. -/
def refKwgOut (A0 : FVec Ideal S8x2048x1024 .f32) (A1 : FVec Ideal S1x6x1024 .f32) (A2 : FVec Ideal S1x1024x1816 .f32) : FVec Ideal S16384x256 .f32 :=
  refKwg (refZ A0 A1 A2)

/-- The gates, a head a row of 128 lanes, the spare lanes one half, from the arguments. -/
def refGateOut (A0 : FVec Ideal S8x2048x1024 .f32) (A1 : FVec Ideal S1x6x1024 .f32) (A2 : FVec Ideal S1x1024x1816 .f32) : FVec Ideal S16384x256 .f32 :=
  refGate (refZ A0 A1 A2)

/-- The recurrence's inputs, a step a row, from the arguments. -/
def refUOut (A0 : FVec Ideal S8x2048x1024 .f32) (A1 : FVec Ideal S1x6x1024 .f32) (A2 : FVec Ideal S1x1024x1816 .f32) : FVec Ideal S2048x4096 .f32 :=
  refU (refZ A0 A1 A2)

end Cert.InprojRefIdeal

end
-- ==== Proof.Inproj.lean ====
/- The input projection: the element each grid point stores and the blocks it reads. -/
module

public import proofs.«01_k».proof.Proof.Gen.InprojIdeal.Frame
public import proofs.«01_k».proof.Proof.Gen.InprojIdeal.Value
public import proofs.«01_k».proof.Proof.InprojRef

@[expose] public section

set_option maxRecDepth 16384

noncomputable section

open Idealize.ShloMosaic Idealize.ShloMosaic.TcCoe Idealize.SL.Sem Cert.Rows

namespace Cert.InprojIdeal

open Cert.InprojIdeal.Gen
open Idealize.ShloMosaic.Pipeline (Dat)

theorem pay3_at (X : FVec Ideal S512x1024 .f32) (G : FVec Ideal S1x1024 .f32) (W : FVec Ideal S1024x2560 .bf16) (r : Fin 512) (l : Fin 2560) :
    k0_pay3 (F := Ideal) X G W (ix2 r l) = dot (rms len1024 (fun i => X (ix2 r i)) fun i => G (ix2 0 i)) fun i => W (ix2 i l) := by
  pointwise [k0_pay3, rms, dot]

/-- The queries a point stores. -/
theorem out3_at (X : FVec Ideal S512x1024 .f32) (G : FVec Ideal S1x1024 .f32) (W : FVec Ideal S1024x2560 .bf16) (r : Fin 512) (j : Fin 512) :
    out0_3 (F := Ideal) X G W (ix2 r j) = dot (rms len1024 (fun i => X (ix2 r i)) fun i => G (ix2 0 i)) fun i => W (ix2 i ⟨0 + j, by omega⟩) := by
  frame_out
  refine Eq.trans ?_ (pay3_at X G W r ⟨0 + j, by omega⟩)
  generalize h : k0_pay3 (F := Ideal) X G W = Y
  unfold k0_pay4
  rw [h]
  pointwise

/-- The compressed branch's keys and values a point stores. -/
theorem out4_at (X : FVec Ideal S512x1024 .f32) (G : FVec Ideal S1x1024 .f32) (W : FVec Ideal S1024x2560 .bf16) (r : Fin 512) (j : Fin 256) :
    out0_4 (F := Ideal) X G W (ix2 r j) = dot (rms len1024 (fun i => X (ix2 r i)) fun i => G (ix2 0 i)) fun i => W (ix2 i ⟨512 + j, by omega⟩) := by
  frame_out
  refine Eq.trans ?_ (pay3_at X G W r ⟨512 + j, by omega⟩)
  generalize h : k0_pay3 (F := Ideal) X G W = Y
  unfold k0_pay5
  rw [h]
  pointwise

/-- The selected branch's keys and values a point stores. -/
theorem out5_at (X : FVec Ideal S512x1024 .f32) (G : FVec Ideal S1x1024 .f32) (W : FVec Ideal S1024x2560 .bf16) (r : Fin 512) (j : Fin 256) :
    out0_5 (F := Ideal) X G W (ix2 r j) = dot (rms len1024 (fun i => X (ix2 r i)) fun i => G (ix2 0 i)) fun i => W (ix2 i ⟨768 + j, by omega⟩) := by
  frame_out
  refine Eq.trans ?_ (pay3_at X G W r ⟨768 + j, by omega⟩)
  generalize h : k0_pay3 (F := Ideal) X G W = Y
  unfold k0_pay6
  rw [h]
  pointwise

/-- The window branch's keys and values a point stores. -/
theorem out6_at (X : FVec Ideal S512x1024 .f32) (G : FVec Ideal S1x1024 .f32) (W : FVec Ideal S1024x2560 .bf16) (r : Fin 512) (j : Fin 256) :
    out0_6 (F := Ideal) X G W (ix2 r j) = dot (rms len1024 (fun i => X (ix2 r i)) fun i => G (ix2 0 i)) fun i => W (ix2 i ⟨1024 + j, by omega⟩) := by
  frame_out
  refine Eq.trans ?_ (pay3_at X G W r ⟨1024 + j, by omega⟩)
  generalize h : k0_pay3 (F := Ideal) X G W = Y
  unfold k0_pay7
  rw [h]
  pointwise

/-- The selected branch's keys and values by head a point stores. -/
theorem out7_at (X : FVec Ideal S512x1024 .f32) (G : FVec Ideal S1x1024 .f32) (W : FVec Ideal S1024x2560 .bf16) (r : Fin 512) (j : Fin 256) :
    out0_7 (F := Ideal) X G W (ix2 r j) = dot (rms len1024 (fun i => X (ix2 r i)) fun i => G (ix2 0 i)) fun i => W (ix2 i ⟨1280 + j, by omega⟩) := by
  frame_out
  refine Eq.trans ?_ (pay3_at X G W r ⟨1280 + j, by omega⟩)
  generalize h : k0_pay3 (F := Ideal) X G W = Y
  unfold k0_pay8
  rw [h]
  pointwise

/-- The window branch's keys and values by head a point stores. -/
theorem out8_at (X : FVec Ideal S512x1024 .f32) (G : FVec Ideal S1x1024 .f32) (W : FVec Ideal S1024x2560 .bf16) (r : Fin 512) (j : Fin 256) :
    out0_8 (F := Ideal) X G W (ix2 r j) = dot (rms len1024 (fun i => X (ix2 r i)) fun i => G (ix2 0 i)) fun i => W (ix2 i ⟨1536 + j, by omega⟩) := by
  frame_out
  refine Eq.trans ?_ (pay3_at X G W r ⟨1536 + j, by omega⟩)
  generalize h : k0_pay3 (F := Ideal) X G W = Y
  unfold k0_pay9
  rw [h]
  pointwise

/-- The gates a point stores. -/
theorem out9_at (X : FVec Ideal S512x1024 .f32) (G : FVec Ideal S1x1024 .f32) (W : FVec Ideal S1024x2560 .bf16) (r : Fin 512) (j : Fin 256) :
    out0_9 (F := Ideal) X G W (ix2 r j)
      = Ideal.logistic (dot (rms len1024 (fun i => X (ix2 r i)) fun i => G (ix2 0 i)) fun i => W (ix2 i ⟨1792 + j, by omega⟩)) := by
  frame_out
  refine Eq.trans ?_ (congrArg Ideal.logistic (pay3_at X G W r ⟨1792 + j, by omega⟩))
  have h : k0_pay10 (F := Ideal) X G W = k0_pay3 X G W := by
    unfold k0_pay10
    rw [View.ld_unit_zero (by decide), View.ld_unit_zero (by decide), View.ld_unit_zero (by decide)]
  rw [h]
  generalize k0_pay3 (F := Ideal) X G W = Y
  pointwise [k0_pay1]

/-- The recurrence's inputs a point stores. -/
theorem out10_at (X : FVec Ideal S512x1024 .f32) (G : FVec Ideal S1x1024 .f32) (W : FVec Ideal S1024x2560 .bf16) (r : Fin 512) (j : Fin 512) :
    out0_10 (F := Ideal) X G W (ix2 r j) = dot (rms len1024 (fun i => X (ix2 r i)) fun i => G (ix2 0 i)) fun i => W (ix2 i ⟨2048 + j, by omega⟩) := by
  frame_out
  refine Eq.trans ?_ (pay3_at X G W r ⟨2048 + j, by omega⟩)
  have h : k0_pay10 (F := Ideal) X G W = k0_pay3 X G W := by
    unfold k0_pay10
    rw [View.ld_unit_zero (by decide), View.ld_unit_zero (by decide), View.ld_unit_zero (by decide)]
  rw [h]
  generalize k0_pay3 (F := Ideal) X G W = Y
  pointwise [k0_pay2]

variable (m : (ℓ : Loc nD τ sig) → Buf (Elt Ideal) ℓ)

/-- Which block of each array a grid point stages: its own 512 rows, everything else whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val % 4, t.val / 4] :=
  (by decide +kernel : ∀ t : Fin grid0.N, _)

/-- A buffer as the host operations before the call leave it, one stretch of them after another. -/
theorem V_at (c : Dev nD) (b : Ref sig .tc) :
    V m c b = StableHlo.after hostOps0_2 (StableHlo.after hostOps0_1 (StableHlo.after hostOps0 fun b => m (c, b))) (Proc.devRef .tc b) := by
  unfold V
  rw [List.flatten_cons, List.flatten_cons, List.flatten_cons, List.flatten_nil, List.append_nil, StableHlo.after_append, StableHlo.after_append]

/-- A point's block of rows is its 512 tokens. -/
theorem x_at (c : Dev nD) (t : Fin cfg0.N) (r : Fin 512) (k : Fin 1024) (b : Fin 8) (s : Fin 2048) (hb : b.val = t.val / 4) (hs : s.val = t.val % 4 * 512 + r) :
    iblk m c 0 t (ix2 r k) = m ((c : Thread nD τ).loc main_arg0) (ix3 b s k) := by
  blk_simp [iblk]
  rw [V_at]
  entry_read
  pointwise
  blk_ext [idx t]

/-- The gain's block is the first gain. -/
theorem g_at (c : Dev nD) (t : Fin cfg0.N) (k : Fin 1024) :
    iblk m c 1 t (ix2 0 k) = m ((c : Thread nD τ).loc main_arg1) (ix3 0 0 k) := by
  blk_simp [iblk]
  rw [V_at]
  entry_read
  pointwise
  blk_ext [idx t]

/-- The eight parts of the packed weight set side by side, at an element. -/
theorem side_at (u0 : FVec Ideal S1024x512 .f32) (u1 u2 u3 u4 u5 u6 : FVec Ideal S1024x256 .f32) (u7 : FVec Ideal S1024x512 .f32) (k : Fin 1024) (l : Fin 2560) :
    truncf .bf16 (concatenate S1024x2560 1 [⟨S1024x512, u0⟩, ⟨S1024x256, u1⟩, ⟨S1024x256, u2⟩, ⟨S1024x256, u3⟩, ⟨S1024x256, u4⟩, ⟨S1024x256, u5⟩,
      ⟨S1024x256, u6⟩, ⟨S1024x512, u7⟩] concatenates_S1024x512_S1024x256_S1024x256_S1024x256_S1024x256_S1024x256_S1024x256_S1024x512_S1024x2560_d1) bitsLt_bf16_f32 (ix2 k l)
    = if h0 : (l : ℕ) < 512 then u0 (ix2 k ⟨l, h0⟩)
      else if h1 : (l : ℕ) < 768 then u1 (ix2 k ⟨l - 512, by omega⟩)
      else if h2 : (l : ℕ) < 1024 then u2 (ix2 k ⟨l - 768, by omega⟩)
      else if h3 : (l : ℕ) < 1280 then u3 (ix2 k ⟨l - 1024, by omega⟩)
      else if h4 : (l : ℕ) < 1536 then u4 (ix2 k ⟨l - 1280, by omega⟩)
      else if h5 : (l : ℕ) < 1792 then u5 (ix2 k ⟨l - 1536, by omega⟩)
      else if h6 : (l : ℕ) < 2048 then u6 (ix2 k ⟨l - 1792, by omega⟩)
      else u7 (ix2 k ⟨l - 2048, by omega⟩) := by
  pointwise
  simp only [Nat.sub_sub, Nat.reduceAdd]
  by_cases h0 : (l : ℕ) < 512
  · simp only [dif_pos (show (l : ℕ) < 512 by omega), dif_pos (show (l : ℕ) < 512 by omega)]
  by_cases h1 : (l : ℕ) < 768
  · simp only [dif_neg (show ¬ (l : ℕ) < 512 by omega), dif_pos (show (l : ℕ) - 512 < 256 by omega), dif_neg (show ¬ (l : ℕ) < 512 by omega), dif_pos (show (l : ℕ) < 768 by omega)]
  by_cases h2 : (l : ℕ) < 1024
  · simp only [dif_neg (show ¬ (l : ℕ) < 512 by omega), dif_neg (show ¬ (l : ℕ) - 512 < 256 by omega), dif_pos (show (l : ℕ) - 768 < 256 by omega), dif_neg (show ¬ (l : ℕ) < 512 by omega), dif_neg (show ¬ (l : ℕ) < 768 by omega), dif_pos (show (l : ℕ) < 1024 by omega)]
  by_cases h3 : (l : ℕ) < 1280
  · simp only [dif_neg (show ¬ (l : ℕ) < 512 by omega), dif_neg (show ¬ (l : ℕ) - 512 < 256 by omega), dif_neg (show ¬ (l : ℕ) - 768 < 256 by omega), dif_pos (show (l : ℕ) - 1024 < 256 by omega), dif_neg (show ¬ (l : ℕ) < 512 by omega), dif_neg (show ¬ (l : ℕ) < 768 by omega), dif_neg (show ¬ (l : ℕ) < 1024 by omega), dif_pos (show (l : ℕ) < 1280 by omega)]
  by_cases h4 : (l : ℕ) < 1536
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_pos (show (l : ℕ) - 1280 < 256 by omega), dif_neg (show ¬ (l : ℕ) < 512 by omega), dif_neg (show ¬ (l : ℕ) < 768 by omega), dif_neg (show ¬ (l : ℕ) < 1024 by omega), dif_neg (show ¬ (l : ℕ) < 1280 by omega), dif_pos (show (l : ℕ) < 1536 by omega)]
  by_cases h5 : (l : ℕ) < 1792
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_pos (show (l : ℕ) - 1536 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_pos (show (l : ℕ) < 1792 by omega)]
  by_cases h6 : (l : ℕ) < 2048
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_neg (show ¬ (l : ℕ) - 1536 < 256 by omega), dif_pos (show (l : ℕ) - 1792 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_pos (show (l : ℕ) < 2048 by omega)]
  simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_neg (show ¬ (l : ℕ) - 1536 < 256 by omega), dif_neg (show ¬ (l : ℕ) - 1792 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_neg (show ¬ (l : ℕ) < 2048 by omega)]

/-- The packed weight is the narrow copy of its eight parts side by side. -/
theorem v20_read (c : Dev nD) :
    @Eq (FVec Ideal S1024x2560 .bf16) (V m c main_v20) <| truncf .bf16 (concatenate S1024x2560 1 [⟨S1024x512, V m c main_v11⟩, ⟨S1024x256, V m c main_v4⟩, ⟨S1024x256, V m c main_v5⟩,
      ⟨S1024x256, V m c main_v6⟩, ⟨S1024x256, V m c main_v14⟩, ⟨S1024x256, V m c main_v17⟩, ⟨S1024x256, V m c main_v10⟩, ⟨S1024x512, V m c main_v18⟩]
      concatenates_S1024x512_S1024x256_S1024x256_S1024x256_S1024x256_S1024x256_S1024x256_S1024x512_S1024x2560_d1) bitsLt_bf16_f32 := by
  obtain ⟨U, hU⟩ : ∃ U, U = StableHlo.after ((hostOps0_2 (F := Ideal)).take 9) (StableHlo.after hostOps0_1 (StableHlo.after hostOps0 fun b => m (c, b))) := ⟨_, rfl⟩
  have key : ∀ b : Ref sig .tc, V m c b = StableHlo.after (hostOps0_2.drop 9) U (Proc.devRef .tc b) := fun b => by
    rw [V_at, hU, ← StableHlo.after_append (hostOps0_2.take 9), List.take_append_drop]
  have out : ∀ r : Ref sig .tc, r ≠ main_v19 → r ≠ main_v20 → V m c r = U (Proc.devRef .tc r) := fun r h h' => by
    rw [key]
    simp only [List.drop_succ_cons, List.drop_zero]
    rw [StableHlo.after_cons, StableHlo.after_cons, StableHlo.after_nil, StableHlo.unary_result_ne (h := h'), StableHlo.nary_result_ne (h := h)]
  rw [key main_v20, out main_v11 (by decide) (by decide), out main_v4 (by decide) (by decide), out main_v5 (by decide) (by decide), out main_v6 (by decide) (by decide), out main_v14 (by decide) (by decide), out main_v17 (by decide) (by decide), out main_v10 (by decide) (by decide), out main_v18 (by decide) (by decide)]
  simp only [List.drop_succ_cons, List.drop_zero]
  rw [StableHlo.after_cons, StableHlo.after_cons, StableHlo.after_nil, StableHlo.unary_result', StableHlo.nary_result']
  rfl

/-- A part of the packed weight: the queries' columns. -/
theorem v11_at (c : Dev nD) (k : Fin 1024) (l : Fin 512) :
    (V m c main_v11 : FVec Ideal S1024x512 .f32) (ix2 k l) = m ((c : Thread nD τ).loc main_arg2) (ix3 0 k ⟨l, by omega⟩) := by
  rw [V_at]
  entry_read
  pointwise

/-- A part of the packed weight: the compressed branch's. -/
theorem v4_at (c : Dev nD) (k : Fin 1024) (l : Fin 256) :
    (V m c main_v4 : FVec Ideal S1024x256 .f32) (ix2 k l) = m ((c : Thread nD τ).loc main_arg2) (ix3 0 k ⟨512 + l, by omega⟩) := by
  rw [V_at]
  entry_read
  pointwise

/-- A part of the packed weight: the selected branch's. -/
theorem v5_at (c : Dev nD) (k : Fin 1024) (l : Fin 256) :
    (V m c main_v5 : FVec Ideal S1024x256 .f32) (ix2 k l) = m ((c : Thread nD τ).loc main_arg2) (ix3 0 k ⟨768 + l, by omega⟩) := by
  rw [V_at]
  entry_read
  pointwise

/-- A part of the packed weight: the window branch's. -/
theorem v6_at (c : Dev nD) (k : Fin 1024) (l : Fin 256) :
    (V m c main_v6 : FVec Ideal S1024x256 .f32) (ix2 k l) = m ((c : Thread nD τ).loc main_arg2) (ix3 0 k ⟨1024 + l, by omega⟩) := by
  rw [V_at]
  entry_read
  pointwise

/-- A part of the packed weight: the selected branch's, by head. -/
theorem v14_at (c : Dev nD) (k : Fin 1024) (l : Fin 256) :
    (V m c main_v14 : FVec Ideal S1024x256 .f32) (ix2 k l) = m ((c : Thread nD τ).loc main_arg2) (ix3 0 k ⟨768 + byGroup l, by omega⟩) := by
  rw [V_at]
  entry_read
  pointwise
  rfl

/-- A part of the packed weight: the window branch's, by head. -/
theorem v17_at (c : Dev nD) (k : Fin 1024) (l : Fin 256) :
    (V m c main_v17 : FVec Ideal S1024x256 .f32) (ix2 k l) = m ((c : Thread nD τ).loc main_arg2) (ix3 0 k ⟨1024 + byGroup l, by omega⟩) := by
  rw [V_at]
  entry_read
  pointwise
  rfl

/-- A part of the packed weight: the recurrence's. -/
theorem v18_at (c : Dev nD) (k : Fin 1024) (l : Fin 512) :
    (V m c main_v18 : FVec Ideal S1024x512 .f32) (ix2 k l) = m ((c : Thread nD τ).loc main_arg2) (ix3 0 k ⟨1304 + l, by omega⟩) := by
  rw [V_at]
  entry_read
  pointwise

/-- A part of the packed weight: the gates', twelve lanes of each 128, zero in the others. -/
theorem v10_at (c : Dev nD) (k : Fin 1024) (l : Fin 256) :
    @Eq EReal ((V m c main_v10 : FVec Ideal S1024x256 .f32) (ix2 k l)) <|
      if h : (l : ℕ) % 128 < 12 then (m ((c : Thread nD τ).loc main_arg2) (ix3 0 k ⟨1280 + ((l : ℕ) / 128 * 12 + (l : ℕ) % 128), by omega⟩)) else 0 := by
  rw [V_at]
  entry_read
  simp only [StableHlo.TRef.toBuf, StableHlo.TRef.ofBuf, cast_cast, cast_eq]
  pointwise
  split_ifs <;> first
    | omega
    | rfl
    | simp [FloatOps.sitofp]

/-- The packed weight's block, at an element. -/
theorem pack_at (c : Dev nD) (t : Fin cfg0.N) (k : Fin 1024) (l : Fin 2560) :
    iblk m c 2 t (ix2 k l) = packed (fun i j => m ((c : Thread nD τ).loc main_arg2) (ix3 0 i j)) k l := by
  have e : iblk m c 2 t (ix2 k l) = V m c main_v20 (ix2 k l) := by
    blk_simp [iblk]
    blk_ext [idx t]
  rw [e, v20_read]
  refine (side_at _ _ _ _ _ _ _ _ k l).trans ?_
  unfold packed
  by_cases h0 : (l : ℕ) < 512
  · simp only [dif_pos (show (l : ℕ) < 512 by omega), dif_pos (show (l : ℕ) < 1280 by omega)]
    exact (v11_at m c k _).trans (congrArg (m ((c : Thread nD τ).loc main_arg2)) (by idx_ext <;> simp <;> omega))
  by_cases h1 : (l : ℕ) < 768
  · simp only [dif_neg (show ¬ (l : ℕ) < 512 by omega), dif_pos (show (l : ℕ) < 768 by omega), dif_pos (show (l : ℕ) < 1280 by omega)]
    exact (v4_at m c k _).trans (congrArg (m ((c : Thread nD τ).loc main_arg2)) (by idx_ext <;> simp <;> omega))
  by_cases h2 : (l : ℕ) < 1024
  · simp only [dif_neg (show ¬ (l : ℕ) < 512 by omega), dif_neg (show ¬ (l : ℕ) < 768 by omega), dif_pos (show (l : ℕ) < 1024 by omega), dif_pos (show (l : ℕ) < 1280 by omega)]
    exact (v5_at m c k _).trans (congrArg (m ((c : Thread nD τ).loc main_arg2)) (by idx_ext <;> simp <;> omega))
  by_cases h3 : (l : ℕ) < 1280
  · simp only [dif_neg (show ¬ (l : ℕ) < 512 by omega), dif_neg (show ¬ (l : ℕ) < 768 by omega), dif_neg (show ¬ (l : ℕ) < 1024 by omega), dif_pos (show (l : ℕ) < 1280 by omega)]
    exact (v6_at m c k _).trans (congrArg (m ((c : Thread nD τ).loc main_arg2)) (by idx_ext <;> simp <;> omega))
  by_cases h4 : (l : ℕ) < 1536
  · simp only [dif_neg (show ¬ (l : ℕ) < 512 by omega), dif_neg (show ¬ (l : ℕ) < 768 by omega), dif_neg (show ¬ (l : ℕ) < 1024 by omega), dif_neg (show ¬ (l : ℕ) < 1280 by omega), dif_pos (show (l : ℕ) < 1536 by omega)]
    exact (v14_at m c k _)
  by_cases h5 : (l : ℕ) < 1792
  · simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_pos (show (l : ℕ) < 1792 by omega)]
    exact (v17_at m c k _)
  by_cases h6 : (l : ℕ) < 2048
  · simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_pos (show (l : ℕ) < 2048 by omega)]
    exact (v10_at m c k _)
  simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_neg (show ¬ (l : ℕ) < 2048 by omega)]
  exact (v18_at m c k _)

/-- A point's row against a packed column is a token's normed row against the column it is the packing of. -/
theorem proj_at (c : Dev nD) (t : Fin cfg0.N) (r : Fin 512) (b : Fin 8) (s : Fin 2048) (hb : b.val = t.val / 4) (hs : s.val = t.val % 4 * 512 + r)
    (l : Fin 2560) (l' : Fin 1816) (h : ∀ (w : Fin 1024 → Fin 1816 → EReal) k, packed w k l = w k l') :
    dot (rms len1024 (fun i => iblk m c 0 t (ix2 r i)) fun i => iblk m c 1 t (ix2 0 i)) (fun i => iblk m c 2 t (ix2 i l))
      = (Cert.InprojRefIdeal.refZ (m ((c : Thread nD τ).loc main_arg0)) (m ((c : Thread nD τ).loc main_arg1)) (m ((c : Thread nD τ).loc main_arg2))) (ix3 b s l') := by
  rw [Cert.InprojRefIdeal.refZ_at]
  simp only [x_at m c t r _ b s hb hs, g_at, pack_at, h]

/-- A point's row against a spare gate lane's column is zero. -/
theorem spare_at (c : Dev nD) (t : Fin cfg0.N) (x : Fin 1024 → EReal) (l : Fin 2560) (h : ∀ w k, packed w k l = 0) :
    dot x (fun i => iblk m c 2 t (ix2 i l)) = 0 := by
  simp only [pack_at, h, dot_zero]

/-- After the run the array of the queries is the reference's. -/
theorem final3 (c : Dev nD) :
    (dats m 0 c).arrAt 3 (cfgs 0).N = Cert.InprojRefIdeal.refQOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have ht : t.val < 32 := lt_of_lt_of_eq t.isLt N_0
  have he : (((cfg0.win 3).blk t).view.emb (ix2 y0 y1) : S16384x512.Idx) = ix2 ⟨t.val * 512 + y0, by omega⟩ y1 := by
    blk_ext [idx t]
  refine (out3_at _ _ _ y0 y1).trans (Eq.trans ?_ ((congrArg _ he).trans
    (Cert.InprojRefIdeal.refQ_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_left w k _ _ (by simp) (by simp; omega)

/-- After the run the array of the compressed branch's keys and values is the reference's. -/
theorem final4 (c : Dev nD) :
    (dats m 0 c).arrAt 4 (cfgs 0).N = Cert.InprojRefIdeal.refKcOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  have ht : t.val < 32 := lt_of_lt_of_eq t.isLt N_0
  have he : (((cfg0.win 4).blk t).view.emb (ix2 y0 y1) : S16384x256.Idx) = ix2 ⟨t.val * 512 + y0, by omega⟩ y1 := by
    blk_ext [idx t]
  refine (out4_at _ _ _ y0 y1).trans (Eq.trans ?_ ((congrArg _ he).trans
    (Cert.InprojRefIdeal.refKc_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_left w k _ _ (by simp) (by simp; omega)

/-- After the run the array of the selected branch's keys and values is the reference's. -/
theorem final5 (c : Dev nD) :
    (dats m 0 c).arrAt 5 (cfgs 0).N = Cert.InprojRefIdeal.refKsOut (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  have ht : t.val < 32 := lt_of_lt_of_eq t.isLt N_0
  have he : (((cfg0.win 5).blk t).view.emb (ix2 y0 y1) : S16384x256.Idx) = ix2 ⟨t.val * 512 + y0, by omega⟩ y1 := by
    blk_ext [idx t]
  refine (out5_at _ _ _ y0 y1).trans (Eq.trans ?_ ((congrArg _ he).trans
    (Cert.InprojRefIdeal.refKs_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_left w k _ _ (by simp) (by simp; omega)

/-- After the run the array of the window branch's keys and values is the reference's. -/
theorem final6 (c : Dev nD) :
    (dats m 0 c).arrAt 6 (cfgs 0).N = Cert.InprojRefIdeal.refKwOut (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have ht : t.val < 32 := lt_of_lt_of_eq t.isLt N_0
  have he : (((cfg0.win 6).blk t).view.emb (ix2 y0 y1) : S16384x256.Idx) = ix2 ⟨t.val * 512 + y0, by omega⟩ y1 := by
    blk_ext [idx t]
  refine (out6_at _ _ _ y0 y1).trans (Eq.trans ?_ ((congrArg _ he).trans
    (Cert.InprojRefIdeal.refKw_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_left w k _ _ (by simp) (by simp; omega)

/-- After the run the array of the selected branch's keys and values by head is the reference's. -/
theorem final7 (c : Dev nD) :
    (dats m 0 c).arrAt 7 (cfgs 0).N = Cert.InprojRefIdeal.refKsgOut (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  have ht : t.val < 32 := lt_of_lt_of_eq t.isLt N_0
  have he : (((cfg0.win 7).blk t).view.emb (ix2 y0 y1) : S16384x256.Idx) = ix2 ⟨t.val * 512 + y0, by omega⟩ y1 := by
    blk_ext [idx t]
  refine (out7_at _ _ _ y0 y1).trans (Eq.trans ?_ ((congrArg _ he).trans
    (Cert.InprojRefIdeal.refKsg_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_sel w k _ _ y1 rfl rfl

/-- After the run the array of the window branch's keys and values by head is the reference's. -/
theorem final8 (c : Dev nD) :
    (dats m 0 c).arrAt 8 (cfgs 0).N = Cert.InprojRefIdeal.refKwgOut (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  have ht : t.val < 32 := lt_of_lt_of_eq t.isLt N_0
  have he : (((cfg0.win 8).blk t).view.emb (ix2 y0 y1) : S16384x256.Idx) = ix2 ⟨t.val * 512 + y0, by omega⟩ y1 := by
    blk_ext [idx t]
  refine (out8_at _ _ _ y0 y1).trans (Eq.trans ?_ ((congrArg _ he).trans
    (Cert.InprojRefIdeal.refKwg_at _ ⟨t.val / 4, by omega⟩ ⟨t.val % 4 * 512 + y0, by omega⟩ _ (by simp <;> omega) y1)).symm)
  exact proj_at m c t y0 ⟨t.val / 4, by omega⟩ ⟨t.val % 4 * 512 + y0, by omega⟩ rfl rfl _ _ fun w k => pack_win w k _ _ y1 rfl rfl

/-- After the run the array of the gates is the reference's. -/
theorem final9 (c : Dev nD) :
    (dats m 0 c).arrAt 9 (cfgs 0).N = Cert.InprojRefIdeal.refGateOut (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  have ht : t.val < 32 := lt_of_lt_of_eq t.isLt N_0
  have he : (((cfg0.win 9).blk t).view.emb (ix2 y0 y1) : S16384x256.Idx) = ix2 ⟨t.val * 512 + y0, by omega⟩ y1 := by
    blk_ext [idx t]
  refine (out9_at _ _ _ y0 y1).trans (Eq.trans ?_ ((congrArg _ he).trans
    (Cert.InprojRefIdeal.refGate_at _ ⟨t.val / 4, by omega⟩ ⟨t.val % 4 * 512 + y0, by omega⟩ _ (by simp <;> omega) y1)).symm)
  unfold gateLane
  split_ifs with h
  · exact congrArg Ideal.logistic (proj_at m c t y0 ⟨t.val / 4, by omega⟩ ⟨t.val % 4 * 512 + y0, by omega⟩ rfl rfl _ _ fun w k => pack_gate w k _ _ y1 h rfl rfl)
  · exact (congrArg Ideal.logistic (spare_at m c t _ _ fun w k => pack_spare w k _ y1 h rfl)).trans logistic_zero

/-- After the run the array of the recurrence's inputs is the reference's. -/
theorem final10 (c : Dev nD) :
    (dats m 0 c).arrAt 10 (cfgs 0).N = Cert.InprojRefIdeal.refUOut (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  idx_vars y
  have ht : t.val < 32 := lt_of_lt_of_eq t.isLt N_0
  have he : (((cfg0.win 10).blk t).view.emb (ix2 y0 y1) : S2048x4096.Idx) = ix2 ⟨t.val % 4 * 512 + y0, by omega⟩ ⟨t.val / 4 * 512 + y1, by omega⟩ := by
    blk_ext [idx t]
  refine (out10_at _ _ _ y0 y1).trans (Eq.trans ?_ ((congrArg _ he).trans
    (Cert.InprojRefIdeal.refU_at _ ⟨t.val / 4, by omega⟩ ⟨t.val % 4 * 512 + y0, by omega⟩ _ y1 (by simp <;> omega))).symm)
  exact proj_at m c t y0 ⟨t.val / 4, by omega⟩ ⟨t.val % 4 * 512 + y0, by omega⟩ rfl rfl _ _ fun w k => pack_u w k _ _ y1 rfl rfl

end Cert.InprojIdeal

end
-- ==== Proof.InprojClaims.lean ====
/- The claims about Inproj: the three programs' frames, and the call's arrays equal to the reference's. -/
module

public import proofs.«01_k».proof.Defs
public import proofs.«01_k».proof.Proof.Gen.Inproj.Frame
public import proofs.«01_k».proof.Proof.Gen.InprojRefIdeal.Run
public import proofs.«01_k».proof.Proof.Inproj

@[expose] public section

set_option maxRecDepth 16384

noncomputable section

namespace Cert.Proof.InprojClaims

open Idealize.ShloMosaic Idealize.SL.Sem

/-- The program, its idealization and the reference run to the end and leave their arguments as they were. -/
theorem frame : Cert.quiescent_Inproj := fun m g _ => Cert.Inproj.Gen.frame m g

theorem frameIdeal : Cert.quiescent_InprojIdeal := fun m g _ => Cert.InprojIdeal.Gen.frame m g

theorem frameRef : Cert.quiescent_InprojRefIdeal := by
  intro m g _
  exact (θ_run Cert.InprojRefIdeal.defs _ _).mono (fun r h => ⟨fun c => (h c).2.2.2.2.2.2.2.2, sem_eq_zero_of_no_sems (by decide) r.2⟩)
    (Cert.InprojRefIdeal.Value.run (F := Ideal) m g)

/-- The reference ends with each result the array its row-by-row account names. -/
theorem refRun (m : (ℓ : Loc Cert.InprojRefIdeal.nD Cert.InprojRefIdeal.τ Cert.InprojRefIdeal.sig) → Buf (Elt Ideal) ℓ) (g : Dev Cert.InprojRefIdeal.nD → PrngReg) :
    θ_run Cert.InprojRefIdeal.defs (onTc (τ := Cert.InprojRefIdeal.τ) (Cert.InprojRefIdeal.main (F := Ideal))) ⟨m, fun _ => 0, g⟩ fun r => ∀ c : Dev Cert.InprojRefIdeal.nD,
      r.2.mem ((c.tc : Thread Cert.InprojRefIdeal.nD Cert.InprojRefIdeal.τ).loc Cert.InprojRefIdeal.main_v31) = Cert.InprojRefIdeal.refQOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v32) = Cert.InprojRefIdeal.refKcOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v33) = Cert.InprojRefIdeal.refKsOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v34) = Cert.InprojRefIdeal.refKwOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v37) = Cert.InprojRefIdeal.refKsgOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v40) = Cert.InprojRefIdeal.refKwgOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v41) = Cert.InprojRefIdeal.refGateOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_v43) = Cert.InprojRefIdeal.refUOut (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2) :=
  (θ_run Cert.InprojRefIdeal.defs _ _).mono (fun r h c => ⟨(h c).1, (h c).2.1, (h c).2.2.1, (h c).2.2.2.1, (h c).2.2.2.2.1, (h c).2.2.2.2.2.1, (h c).2.2.2.2.2.2.1, (h c).2.2.2.2.2.2.2⟩)
    (Cert.InprojRefIdeal.Value.run (F := Ideal) m g)

/-- From equal arguments the call and the reference end with equal results. -/
theorem algebraic : Cert.algebraic_InprojIdeal_InprojRefIdeal := by
  intro m g m' g' _ hagree
  refine ⟨fun c => (Cert.InprojIdeal.Gen.dats m 0 c).arrAt 3 (Cert.InprojIdeal.cfgs 0).N, fun c => (Cert.InprojIdeal.Gen.dats m 0 c).arrAt 4 (Cert.InprojIdeal.cfgs 0).N, fun c => (Cert.InprojIdeal.Gen.dats m 0 c).arrAt 5 (Cert.InprojIdeal.cfgs 0).N, fun c => (Cert.InprojIdeal.Gen.dats m 0 c).arrAt 6 (Cert.InprojIdeal.cfgs 0).N, fun c => (Cert.InprojIdeal.Gen.dats m 0 c).arrAt 7 (Cert.InprojIdeal.cfgs 0).N, fun c => (Cert.InprojIdeal.Gen.dats m 0 c).arrAt 8 (Cert.InprojIdeal.cfgs 0).N, fun c => (Cert.InprojIdeal.Gen.dats m 0 c).arrAt 9 (Cert.InprojIdeal.cfgs 0).N, fun c => (Cert.InprojIdeal.Gen.dats m 0 c).arrAt 10 (Cert.InprojIdeal.cfgs 0).N,
    Cert.InprojIdeal.Value.run_blocks m g, (θ_run Cert.InprojRefIdeal.defs _ _).mono (fun r h c => ?_) (refRun m' g')⟩
  obtain ⟨a0, a1, a2⟩ := hagree c
  obtain ⟨e3, e4, e5, e6, e7, e8, e9, e10, ha⟩ := h c
  rw [a0, a1, a2] at e3 e4 e5 e6 e7 e8 e9 e10
  exact ⟨e3.trans (Cert.InprojIdeal.final3 m c).symm, e4.trans (Cert.InprojIdeal.final4 m c).symm, e5.trans (Cert.InprojIdeal.final5 m c).symm, e6.trans (Cert.InprojIdeal.final6 m c).symm, e7.trans (Cert.InprojIdeal.final7 m c).symm, e8.trans (Cert.InprojIdeal.final8 m c).symm, e9.trans (Cert.InprojIdeal.final9 m c).symm, e10.trans (Cert.InprojIdeal.final10 m c).symm, ha⟩

end Cert.Proof.InprojClaims

end
-- ==== Proof.InprojSRef.lean ====
/- What the reference of the input projection computes, row by row. -/
module

public import proofs.«01_k».proof.Proof.Gen.InprojSRefIdeal.Run
public import proofs.«01_k».proof.Proof.RowsIn

@[expose] public section

set_option maxRecDepth 16384

noncomputable section

open Idealize.ShloMosaic Idealize.ShloMosaic.TcCoe Idealize.SL.Sem Cert.Rows

namespace Cert.InprojSRefIdeal

open Cert.InprojSRefIdeal.Gen

/-- The normed rows through the input weight. -/
def refZ (A0 : FVec Ideal S128x1x1024 .f32) (A1 : FVec Ideal S1x6x1024 .f32) (A2 : FVec Ideal S1x1024x1816 .f32) : FVec Ideal S1x128x1816 .f32 :=
  Host.dotGeneral dot_S1x128x1024_S1024x1816_S1x128x1816_2_0_01_1_n_n none (mulf (mulf (transpose S1x128x1024 [1, 0, 2] A0 transposes_S128x1x1024_S1x128x1024_1_0_2) (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf (transpose S1x128x1024 [1, 0, 2] A0 transposes_S128x1x1024_S1x128x1024_1_0_2) (transpose S1x128x1024 [1, 0, 2] A0 transposes_S128x1x1024_S1x128x1024_1_0_2)) (constant (F := Ideal) S_ .f32 0x00000000#32) reducesTo_S1x128x1024_S1x128_d2 h_S_)) (broadcastInDim S1x128x1 ![] bcast_S_S1x128x1 (constant (F := Ideal) S_ .f32 0x44800000#32))) (broadcastInDim S1x128x1 ![] bcast_S_S1x128x1 (constant (F := Ideal) S_ .f32 0x358637BD#32)))))) (broadcastInDim S1x128x1024 ![0, 1, 2] bcast_S1x1x1024_S1x128x1024_0_1_2 (broadcastInDim S1x1x1024 ![2] bcast_S1024_S1x1x1024_2 (shapeCast S1024 (extractStridedSlice S1x1x1024 ![0, 0, 0] A1 slices_S1x6x1024_S1x1x1024_0_0_0) shapeCasts_S1x1x1024_S1024)))) (shapeCast S1024x1816 A2 shapeCasts_S1x1024x1816_S1024x1816)

/-- The queries. -/
def refQ (VrefZ : FVec Ideal S1x128x1816 .f32) : FVec Ideal S128x512 .f32 :=
  shapeCast S128x512 (extractStridedSlice S1x128x512 ![0, 0, 0] VrefZ slices_S1x128x1816_S1x128x512_0_0_0) shapeCasts_S1x128x512_S128x512

/-- The keys and values of the compressed branch. -/
def refKc (VrefZ : FVec Ideal S1x128x1816 .f32) : FVec Ideal S128x256 .f32 :=
  shapeCast S128x256 (extractStridedSlice S1x128x256 ![0, 0, 512] VrefZ slices_S1x128x1816_S1x128x256_0_0_512) shapeCasts_S1x128x256_S128x256

/-- The keys and values of the selected branch. -/
def refKs (VrefZ : FVec Ideal S1x128x1816 .f32) : FVec Ideal S128x256 .f32 :=
  shapeCast S128x256 (extractStridedSlice S1x128x256 ![0, 0, 768] VrefZ slices_S1x128x1816_S1x128x256_0_0_768) shapeCasts_S1x128x256_S128x256

/-- The keys and values of the window branch. -/
def refKw (VrefZ : FVec Ideal S1x128x1816 .f32) : FVec Ideal S128x256 .f32 :=
  shapeCast S128x256 (extractStridedSlice S1x128x256 ![0, 0, 1024] VrefZ slices_S1x128x1816_S1x128x256_0_0_1024) shapeCasts_S1x128x256_S128x256

/-- The selected branch's keys and values, a head's side by side. -/
def refKsg (VrefZ : FVec Ideal S1x128x1816 .f32) : FVec Ideal S128x256 .f32 :=
  shapeCast S128x256 (transpose S1x128x2x2x64 [0, 1, 3, 2, 4] (shapeCast S1x128x2x2x64 (extractStridedSlice S1x128x256 ![0, 0, 768] VrefZ slices_S1x128x1816_S1x128x256_0_0_768) shapeCasts_S1x128x256_S1x128x2x2x64) transposes_S1x128x2x2x64_S1x128x2x2x64_0_1_3_2_4) shapeCasts_S1x128x2x2x64_S128x256

/-- The window branch's keys and values, a head's side by side. -/
def refKwg (VrefZ : FVec Ideal S1x128x1816 .f32) : FVec Ideal S128x256 .f32 :=
  shapeCast S128x256 (transpose S1x128x2x2x64 [0, 1, 3, 2, 4] (shapeCast S1x128x2x2x64 (extractStridedSlice S1x128x256 ![0, 0, 1024] VrefZ slices_S1x128x1816_S1x128x256_0_0_1024) shapeCasts_S1x128x256_S1x128x2x2x64) transposes_S1x128x2x2x64_S1x128x2x2x64_0_1_3_2_4) shapeCasts_S1x128x2x2x64_S128x256

/-- The gates, a head a row of 128 lanes, the spare lanes one half. -/
def refGate (VrefZ : FVec Ideal S1x128x1816 .f32) : FVec Ideal S128x256 .f32 :=
  shapeCast S128x256 (pad S1x128x2x128 ![0, 0, 0, 0] ![0, 0, 0, 116] ![0, 0, 0, 0] (shapeCast S1x128x2x12 (Host.divf (broadcastInDim S1x128x24 ![] bcast_S_S1x128x24 (constant (F := Ideal) S_ .f32 0x3F800000#32)) (addf (broadcastInDim S1x128x24 ![] bcast_S_S1x128x24 (constant (F := Ideal) S_ .f32 0x3F800000#32)) (Host.exp (Host.negf (extractStridedSlice S1x128x24 ![0, 0, 1280] VrefZ slices_S1x128x1816_S1x128x24_0_0_1280))))) shapeCasts_S1x128x24_S1x128x2x12) (id (constant (F := Ideal) S_ .f32 0x3F000000#32)) pads_S1x128x2x12_S1x128x2x128_000_000_000_01160 h_S_) shapeCasts_S1x128x2x128_S128x256

/-- The recurrence's inputs, a step a row. -/
def refU (VrefZ : FVec Ideal S1x128x1816 .f32) : FVec Ideal S128x512 .f32 :=
  shapeCast S128x512 (transpose S128x1x512 [1, 0, 2] (extractStridedSlice S1x128x512 ![0, 0, 1304] VrefZ slices_S1x128x1816_S1x128x512_0_0_1304) transposes_S1x128x512_S128x1x512_1_0_2) shapeCasts_S128x1x512_S128x512

theorem refZ_at (A0 : FVec Ideal S128x1x1024 .f32) (A1 : FVec Ideal S1x6x1024 .f32) (A2 : FVec Ideal S1x1024x1816 .f32) (b : Fin 1) (s : Fin 128) (l : Fin 1816) :
    refZ A0 A1 A2 (ix3 b s l)
      = dot (rms len1024 (fun i => A0 (ix3 s b i)) fun i => A1 (ix3 0 0 i)) fun i => A2 (ix3 0 i l) := by
  obtain rfl : b = 0 := Subsingleton.elim _ _
  pointwise [refZ, rms, dot]

theorem refQ_at (Z : FVec Ideal S1x128x1816 .f32) (b : Fin 1) (s : Fin 128) (r : Fin 128) (hr : (r : ℕ) = b * 128 + s) (j : Fin 512) :
    refQ Z (ix2 r j) = Z (ix3 b s ⟨j, by omega⟩) := by
  pointwise [refQ]
  exact congrArg Z (by idx_ext <;> simp [byGroup] <;> omega)

theorem refKc_at (Z : FVec Ideal S1x128x1816 .f32) (b : Fin 1) (s : Fin 128) (r : Fin 128) (hr : (r : ℕ) = b * 128 + s) (j : Fin 256) :
    refKc Z (ix2 r j) = Z (ix3 b s ⟨512 + j, by omega⟩) := by
  pointwise [refKc]
  exact congrArg Z (by idx_ext <;> simp [byGroup] <;> omega)

theorem refKs_at (Z : FVec Ideal S1x128x1816 .f32) (b : Fin 1) (s : Fin 128) (r : Fin 128) (hr : (r : ℕ) = b * 128 + s) (j : Fin 256) :
    refKs Z (ix2 r j) = Z (ix3 b s ⟨768 + j, by omega⟩) := by
  pointwise [refKs]
  exact congrArg Z (by idx_ext <;> simp [byGroup] <;> omega)

theorem refKw_at (Z : FVec Ideal S1x128x1816 .f32) (b : Fin 1) (s : Fin 128) (r : Fin 128) (hr : (r : ℕ) = b * 128 + s) (j : Fin 256) :
    refKw Z (ix2 r j) = Z (ix3 b s ⟨1024 + j, by omega⟩) := by
  pointwise [refKw]
  exact congrArg Z (by idx_ext <;> simp [byGroup] <;> omega)

theorem refKsg_at (Z : FVec Ideal S1x128x1816 .f32) (b : Fin 1) (s : Fin 128) (r : Fin 128) (hr : (r : ℕ) = b * 128 + s) (j : Fin 256) :
    refKsg Z (ix2 r j) = Z (ix3 b s ⟨768 + byGroup j, by omega⟩) := by
  pointwise [refKsg]
  exact congrArg Z (by idx_ext <;> simp [byGroup] <;> omega)

theorem refKwg_at (Z : FVec Ideal S1x128x1816 .f32) (b : Fin 1) (s : Fin 128) (r : Fin 128) (hr : (r : ℕ) = b * 128 + s) (j : Fin 256) :
    refKwg Z (ix2 r j) = Z (ix3 b s ⟨1024 + byGroup j, by omega⟩) := by
  pointwise [refKwg]
  exact congrArg Z (by idx_ext <;> simp [byGroup] <;> omega)

theorem refGate_at (Z : FVec Ideal S1x128x1816 .f32) (b : Fin 1) (s : Fin 128) (r : Fin 128) (hr : (r : ℕ) = b * 128 + s) (j : Fin 256) :
    refGate Z (ix2 r j) = gateLane (fun g => Z (ix3 b s ⟨1280 + g, by omega⟩)) j := by
  pointwise [refGate, gateLane, Ideal.logistic]
  split_ifs <;> first | rfl | omega | skip
  refine congrArg (fun z => Ideal.div _ (_ + Ideal.exp (-z))) (congrArg Z ?_)
  idx_ext <;> simp <;> omega

theorem refU_at (Z : FVec Ideal S1x128x1816 .f32) (b : Fin 1) (s : Fin 128) (l : Fin 512) (j : Fin 512) (hl : (l : ℕ) = b * 512 + j) :
    refU Z (ix2 s l) = Z (ix3 b s ⟨1304 + j, by omega⟩) := by
  pointwise [refU]
  exact congrArg Z (by idx_ext <;> simp <;> omega)

/-- The queries, from the arguments. -/
def refQOut (A0 : FVec Ideal S128x1x1024 .f32) (A1 : FVec Ideal S1x6x1024 .f32) (A2 : FVec Ideal S1x1024x1816 .f32) : FVec Ideal S128x512 .f32 :=
  refQ (refZ A0 A1 A2)

/-- The keys and values of the compressed branch, from the arguments. -/
def refKcOut (A0 : FVec Ideal S128x1x1024 .f32) (A1 : FVec Ideal S1x6x1024 .f32) (A2 : FVec Ideal S1x1024x1816 .f32) : FVec Ideal S128x256 .f32 :=
  refKc (refZ A0 A1 A2)

/-- The keys and values of the selected branch, from the arguments. -/
def refKsOut (A0 : FVec Ideal S128x1x1024 .f32) (A1 : FVec Ideal S1x6x1024 .f32) (A2 : FVec Ideal S1x1024x1816 .f32) : FVec Ideal S128x256 .f32 :=
  refKs (refZ A0 A1 A2)

/-- The keys and values of the window branch, from the arguments. -/
def refKwOut (A0 : FVec Ideal S128x1x1024 .f32) (A1 : FVec Ideal S1x6x1024 .f32) (A2 : FVec Ideal S1x1024x1816 .f32) : FVec Ideal S128x256 .f32 :=
  refKw (refZ A0 A1 A2)

/-- The selected branch's keys and values, a head's side by side, from the arguments. -/
def refKsgOut (A0 : FVec Ideal S128x1x1024 .f32) (A1 : FVec Ideal S1x6x1024 .f32) (A2 : FVec Ideal S1x1024x1816 .f32) : FVec Ideal S128x256 .f32 :=
  refKsg (refZ A0 A1 A2)

/-- The window branch's keys and values, a head's side by side, from the arguments. -/
def refKwgOut (A0 : FVec Ideal S128x1x1024 .f32) (A1 : FVec Ideal S1x6x1024 .f32) (A2 : FVec Ideal S1x1024x1816 .f32) : FVec Ideal S128x256 .f32 :=
  refKwg (refZ A0 A1 A2)

/-- The gates, a head a row of 128 lanes, the spare lanes one half, from the arguments. -/
def refGateOut (A0 : FVec Ideal S128x1x1024 .f32) (A1 : FVec Ideal S1x6x1024 .f32) (A2 : FVec Ideal S1x1024x1816 .f32) : FVec Ideal S128x256 .f32 :=
  refGate (refZ A0 A1 A2)

/-- The recurrence's inputs, a step a row, from the arguments. -/
def refUOut (A0 : FVec Ideal S128x1x1024 .f32) (A1 : FVec Ideal S1x6x1024 .f32) (A2 : FVec Ideal S1x1024x1816 .f32) : FVec Ideal S128x512 .f32 :=
  refU (refZ A0 A1 A2)

end Cert.InprojSRefIdeal

end
-- ==== Proof.InprojS.lean ====
/- The input projection of the sampled tokens: the element each grid point stores and the blocks it reads. -/
module

public import proofs.«01_k».proof.Proof.Gen.InprojSIdeal.Frame
public import proofs.«01_k».proof.Proof.Gen.InprojSIdeal.Value
public import proofs.«01_k».proof.Proof.InprojSRef

@[expose] public section

set_option maxRecDepth 16384

noncomputable section

open Idealize.ShloMosaic Idealize.ShloMosaic.TcCoe Idealize.SL.Sem Cert.Rows

namespace Cert.InprojSIdeal

open Cert.InprojSIdeal.Gen
open Idealize.ShloMosaic.Pipeline (Dat)

theorem pay3_at (X : FVec Ideal S128x1024 .f32) (G : FVec Ideal S1x1024 .f32) (W : FVec Ideal S1024x2560 .bf16) (r : Fin 128) (l : Fin 2560) :
    k0_pay3 (F := Ideal) X G W (ix2 r l) = dot (rms len1024 (fun i => X (ix2 r i)) fun i => G (ix2 0 i)) fun i => W (ix2 i l) := by
  pointwise [k0_pay3, rms, dot]

/-- The queries a point stores. -/
theorem out3_at (X : FVec Ideal S128x1024 .f32) (G : FVec Ideal S1x1024 .f32) (W : FVec Ideal S1024x2560 .bf16) (r : Fin 128) (j : Fin 512) :
    out0_3 (F := Ideal) X G W (ix2 r j) = dot (rms len1024 (fun i => X (ix2 r i)) fun i => G (ix2 0 i)) fun i => W (ix2 i ⟨0 + j, by omega⟩) := by
  frame_out
  refine Eq.trans ?_ (pay3_at X G W r ⟨0 + j, by omega⟩)
  generalize h : k0_pay3 (F := Ideal) X G W = Y
  unfold k0_pay4
  rw [h]
  pointwise

/-- The compressed branch's keys and values a point stores. -/
theorem out4_at (X : FVec Ideal S128x1024 .f32) (G : FVec Ideal S1x1024 .f32) (W : FVec Ideal S1024x2560 .bf16) (r : Fin 128) (j : Fin 256) :
    out0_4 (F := Ideal) X G W (ix2 r j) = dot (rms len1024 (fun i => X (ix2 r i)) fun i => G (ix2 0 i)) fun i => W (ix2 i ⟨512 + j, by omega⟩) := by
  frame_out
  refine Eq.trans ?_ (pay3_at X G W r ⟨512 + j, by omega⟩)
  generalize h : k0_pay3 (F := Ideal) X G W = Y
  unfold k0_pay5
  rw [h]
  pointwise

/-- The selected branch's keys and values a point stores. -/
theorem out5_at (X : FVec Ideal S128x1024 .f32) (G : FVec Ideal S1x1024 .f32) (W : FVec Ideal S1024x2560 .bf16) (r : Fin 128) (j : Fin 256) :
    out0_5 (F := Ideal) X G W (ix2 r j) = dot (rms len1024 (fun i => X (ix2 r i)) fun i => G (ix2 0 i)) fun i => W (ix2 i ⟨768 + j, by omega⟩) := by
  frame_out
  refine Eq.trans ?_ (pay3_at X G W r ⟨768 + j, by omega⟩)
  generalize h : k0_pay3 (F := Ideal) X G W = Y
  unfold k0_pay6
  rw [h]
  pointwise

/-- The window branch's keys and values a point stores. -/
theorem out6_at (X : FVec Ideal S128x1024 .f32) (G : FVec Ideal S1x1024 .f32) (W : FVec Ideal S1024x2560 .bf16) (r : Fin 128) (j : Fin 256) :
    out0_6 (F := Ideal) X G W (ix2 r j) = dot (rms len1024 (fun i => X (ix2 r i)) fun i => G (ix2 0 i)) fun i => W (ix2 i ⟨1024 + j, by omega⟩) := by
  frame_out
  refine Eq.trans ?_ (pay3_at X G W r ⟨1024 + j, by omega⟩)
  generalize h : k0_pay3 (F := Ideal) X G W = Y
  unfold k0_pay7
  rw [h]
  pointwise

/-- The selected branch's keys and values by head a point stores. -/
theorem out7_at (X : FVec Ideal S128x1024 .f32) (G : FVec Ideal S1x1024 .f32) (W : FVec Ideal S1024x2560 .bf16) (r : Fin 128) (j : Fin 256) :
    out0_7 (F := Ideal) X G W (ix2 r j) = dot (rms len1024 (fun i => X (ix2 r i)) fun i => G (ix2 0 i)) fun i => W (ix2 i ⟨1280 + j, by omega⟩) := by
  frame_out
  refine Eq.trans ?_ (pay3_at X G W r ⟨1280 + j, by omega⟩)
  generalize h : k0_pay3 (F := Ideal) X G W = Y
  unfold k0_pay8
  rw [h]
  pointwise

/-- The window branch's keys and values by head a point stores. -/
theorem out8_at (X : FVec Ideal S128x1024 .f32) (G : FVec Ideal S1x1024 .f32) (W : FVec Ideal S1024x2560 .bf16) (r : Fin 128) (j : Fin 256) :
    out0_8 (F := Ideal) X G W (ix2 r j) = dot (rms len1024 (fun i => X (ix2 r i)) fun i => G (ix2 0 i)) fun i => W (ix2 i ⟨1536 + j, by omega⟩) := by
  frame_out
  refine Eq.trans ?_ (pay3_at X G W r ⟨1536 + j, by omega⟩)
  generalize h : k0_pay3 (F := Ideal) X G W = Y
  unfold k0_pay9
  rw [h]
  pointwise

/-- The gates a point stores. -/
theorem out9_at (X : FVec Ideal S128x1024 .f32) (G : FVec Ideal S1x1024 .f32) (W : FVec Ideal S1024x2560 .bf16) (r : Fin 128) (j : Fin 256) :
    out0_9 (F := Ideal) X G W (ix2 r j)
      = Ideal.logistic (dot (rms len1024 (fun i => X (ix2 r i)) fun i => G (ix2 0 i)) fun i => W (ix2 i ⟨1792 + j, by omega⟩)) := by
  frame_out
  refine Eq.trans ?_ (congrArg Ideal.logistic (pay3_at X G W r ⟨1792 + j, by omega⟩))
  have h : k0_pay10 (F := Ideal) X G W = k0_pay3 X G W := by
    unfold k0_pay10
    rw [View.ld_unit_zero (by decide), View.ld_unit_zero (by decide), View.ld_unit_zero (by decide)]
  rw [h]
  generalize k0_pay3 (F := Ideal) X G W = Y
  pointwise [k0_pay1]

/-- The recurrence's inputs a point stores. -/
theorem out10_at (X : FVec Ideal S128x1024 .f32) (G : FVec Ideal S1x1024 .f32) (W : FVec Ideal S1024x2560 .bf16) (r : Fin 128) (j : Fin 512) :
    out0_10 (F := Ideal) X G W (ix2 r j) = dot (rms len1024 (fun i => X (ix2 r i)) fun i => G (ix2 0 i)) fun i => W (ix2 i ⟨2048 + j, by omega⟩) := by
  frame_out
  refine Eq.trans ?_ (pay3_at X G W r ⟨2048 + j, by omega⟩)
  have h : k0_pay10 (F := Ideal) X G W = k0_pay3 X G W := by
    unfold k0_pay10
    rw [View.ld_unit_zero (by decide), View.ld_unit_zero (by decide), View.ld_unit_zero (by decide)]
  rw [h]
  generalize k0_pay3 (F := Ideal) X G W = Y
  pointwise [k0_pay2]

variable (m : (ℓ : Loc nD τ sig) → Buf (Elt Ideal) ℓ)

/-- Which block of each array a grid point stages: its own 128 rows, everything else whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![0, t.val] :=
  (by decide +kernel : ∀ t : Fin grid0.N, _)

/-- A buffer as the host operations before the call leave it, one stretch of them after another. -/
theorem V_at (c : Dev nD) (b : Ref sig .tc) :
    V m c b = StableHlo.after hostOps0_2 (StableHlo.after hostOps0_1 (StableHlo.after hostOps0 fun b => m (c, b))) (Proc.devRef .tc b) := by
  unfold V
  rw [List.flatten_cons, List.flatten_cons, List.flatten_cons, List.flatten_nil, List.append_nil, StableHlo.after_append, StableHlo.after_append]

/-- A point's block of rows is its 128 tokens. -/
theorem x_at (c : Dev nD) (t : Fin cfg0.N) (r : Fin 128) (k : Fin 1024) (b : Fin 1) (s : Fin 128) (hs : s.val = t.val * 128 + r) :
    iblk m c 0 t (ix2 r k) = m ((c : Thread nD τ).loc main_arg0) (ix3 s b k) := by
  blk_simp [iblk]
  rw [V_at]
  entry_read
  pointwise
  blk_ext [idx t]

/-- The gain's block is the first gain. -/
theorem g_at (c : Dev nD) (t : Fin cfg0.N) (k : Fin 1024) :
    iblk m c 1 t (ix2 0 k) = m ((c : Thread nD τ).loc main_arg1) (ix3 0 0 k) := by
  blk_simp [iblk]
  rw [V_at]
  entry_read
  pointwise
  blk_ext [idx t]

/-- The eight parts of the packed weight set side by side, at an element. -/
theorem side_at (u0 : FVec Ideal S1024x512 .f32) (u1 u2 u3 u4 u5 u6 : FVec Ideal S1024x256 .f32) (u7 : FVec Ideal S1024x512 .f32) (k : Fin 1024) (l : Fin 2560) :
    truncf .bf16 (concatenate S1024x2560 1 [⟨S1024x512, u0⟩, ⟨S1024x256, u1⟩, ⟨S1024x256, u2⟩, ⟨S1024x256, u3⟩, ⟨S1024x256, u4⟩, ⟨S1024x256, u5⟩,
      ⟨S1024x256, u6⟩, ⟨S1024x512, u7⟩] concatenates_S1024x512_S1024x256_S1024x256_S1024x256_S1024x256_S1024x256_S1024x256_S1024x512_S1024x2560_d1) bitsLt_bf16_f32 (ix2 k l)
    = if h0 : (l : ℕ) < 512 then u0 (ix2 k ⟨l, h0⟩)
      else if h1 : (l : ℕ) < 768 then u1 (ix2 k ⟨l - 512, by omega⟩)
      else if h2 : (l : ℕ) < 1024 then u2 (ix2 k ⟨l - 768, by omega⟩)
      else if h3 : (l : ℕ) < 1280 then u3 (ix2 k ⟨l - 1024, by omega⟩)
      else if h4 : (l : ℕ) < 1536 then u4 (ix2 k ⟨l - 1280, by omega⟩)
      else if h5 : (l : ℕ) < 1792 then u5 (ix2 k ⟨l - 1536, by omega⟩)
      else if h6 : (l : ℕ) < 2048 then u6 (ix2 k ⟨l - 1792, by omega⟩)
      else u7 (ix2 k ⟨l - 2048, by omega⟩) := by
  pointwise
  simp only [Nat.sub_sub, Nat.reduceAdd]
  by_cases h0 : (l : ℕ) < 512
  · simp only [dif_pos (show (l : ℕ) < 512 by omega), dif_pos (show (l : ℕ) < 512 by omega)]
  by_cases h1 : (l : ℕ) < 768
  · simp only [dif_neg (show ¬ (l : ℕ) < 512 by omega), dif_pos (show (l : ℕ) - 512 < 256 by omega), dif_neg (show ¬ (l : ℕ) < 512 by omega), dif_pos (show (l : ℕ) < 768 by omega)]
  by_cases h2 : (l : ℕ) < 1024
  · simp only [dif_neg (show ¬ (l : ℕ) < 512 by omega), dif_neg (show ¬ (l : ℕ) - 512 < 256 by omega), dif_pos (show (l : ℕ) - 768 < 256 by omega), dif_neg (show ¬ (l : ℕ) < 512 by omega), dif_neg (show ¬ (l : ℕ) < 768 by omega), dif_pos (show (l : ℕ) < 1024 by omega)]
  by_cases h3 : (l : ℕ) < 1280
  · simp only [dif_neg (show ¬ (l : ℕ) < 512 by omega), dif_neg (show ¬ (l : ℕ) - 512 < 256 by omega), dif_neg (show ¬ (l : ℕ) - 768 < 256 by omega), dif_pos (show (l : ℕ) - 1024 < 256 by omega), dif_neg (show ¬ (l : ℕ) < 512 by omega), dif_neg (show ¬ (l : ℕ) < 768 by omega), dif_neg (show ¬ (l : ℕ) < 1024 by omega), dif_pos (show (l : ℕ) < 1280 by omega)]
  by_cases h4 : (l : ℕ) < 1536
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_pos (show (l : ℕ) - 1280 < 256 by omega), dif_neg (show ¬ (l : ℕ) < 512 by omega), dif_neg (show ¬ (l : ℕ) < 768 by omega), dif_neg (show ¬ (l : ℕ) < 1024 by omega), dif_neg (show ¬ (l : ℕ) < 1280 by omega), dif_pos (show (l : ℕ) < 1536 by omega)]
  by_cases h5 : (l : ℕ) < 1792
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_pos (show (l : ℕ) - 1536 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_pos (show (l : ℕ) < 1792 by omega)]
  by_cases h6 : (l : ℕ) < 2048
  · simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_neg (show ¬ (l : ℕ) - 1536 < 256 by omega), dif_pos (show (l : ℕ) - 1792 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_pos (show (l : ℕ) < 2048 by omega)]
  simp only [dif_neg (show ¬ (l : ℕ) < 512 by omega), dif_neg (show ¬ (l : ℕ) - 512 < 256 by omega), dif_neg (show ¬ (l : ℕ) - 768 < 256 by omega), dif_neg (show ¬ (l : ℕ) - 1024 < 256 by omega), dif_neg (show ¬ (l : ℕ) - 1280 < 256 by omega), dif_neg (show ¬ (l : ℕ) - 1536 < 256 by omega), dif_neg (show ¬ (l : ℕ) - 1792 < 256 by omega), dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_neg (show ¬ (l : ℕ) < 2048 by omega)]

/-- The packed weight is the narrow copy of its eight parts side by side. -/
theorem v20_read (c : Dev nD) :
    @Eq (FVec Ideal S1024x2560 .bf16) (V m c main_v20) <| truncf .bf16 (concatenate S1024x2560 1 [⟨S1024x512, V m c main_v11⟩, ⟨S1024x256, V m c main_v4⟩, ⟨S1024x256, V m c main_v5⟩,
      ⟨S1024x256, V m c main_v6⟩, ⟨S1024x256, V m c main_v14⟩, ⟨S1024x256, V m c main_v17⟩, ⟨S1024x256, V m c main_v10⟩, ⟨S1024x512, V m c main_v18⟩]
      concatenates_S1024x512_S1024x256_S1024x256_S1024x256_S1024x256_S1024x256_S1024x256_S1024x512_S1024x2560_d1) bitsLt_bf16_f32 := by
  obtain ⟨U, hU⟩ : ∃ U, U = StableHlo.after ((hostOps0_2 (F := Ideal)).take 9) (StableHlo.after hostOps0_1 (StableHlo.after hostOps0 fun b => m (c, b))) := ⟨_, rfl⟩
  have key : ∀ b : Ref sig .tc, V m c b = StableHlo.after (hostOps0_2.drop 9) U (Proc.devRef .tc b) := fun b => by
    rw [V_at, hU, ← StableHlo.after_append (hostOps0_2.take 9), List.take_append_drop]
  have out : ∀ r : Ref sig .tc, r ≠ main_v19 → r ≠ main_v20 → V m c r = U (Proc.devRef .tc r) := fun r h h' => by
    rw [key]
    simp only [List.drop_succ_cons, List.drop_zero]
    rw [StableHlo.after_cons, StableHlo.after_cons, StableHlo.after_nil, StableHlo.unary_result_ne (h := h'), StableHlo.nary_result_ne (h := h)]
  rw [key main_v20, out main_v11 (by decide) (by decide), out main_v4 (by decide) (by decide), out main_v5 (by decide) (by decide), out main_v6 (by decide) (by decide), out main_v14 (by decide) (by decide), out main_v17 (by decide) (by decide), out main_v10 (by decide) (by decide), out main_v18 (by decide) (by decide)]
  simp only [List.drop_succ_cons, List.drop_zero]
  rw [StableHlo.after_cons, StableHlo.after_cons, StableHlo.after_nil, StableHlo.unary_result', StableHlo.nary_result']
  rfl

/-- A part of the packed weight: the queries' columns. -/
theorem v11_at (c : Dev nD) (k : Fin 1024) (l : Fin 512) :
    (V m c main_v11 : FVec Ideal S1024x512 .f32) (ix2 k l) = m ((c : Thread nD τ).loc main_arg2) (ix3 0 k ⟨l, by omega⟩) := by
  rw [V_at]
  entry_read
  pointwise

/-- A part of the packed weight: the compressed branch's. -/
theorem v4_at (c : Dev nD) (k : Fin 1024) (l : Fin 256) :
    (V m c main_v4 : FVec Ideal S1024x256 .f32) (ix2 k l) = m ((c : Thread nD τ).loc main_arg2) (ix3 0 k ⟨512 + l, by omega⟩) := by
  rw [V_at]
  entry_read
  pointwise

/-- A part of the packed weight: the selected branch's. -/
theorem v5_at (c : Dev nD) (k : Fin 1024) (l : Fin 256) :
    (V m c main_v5 : FVec Ideal S1024x256 .f32) (ix2 k l) = m ((c : Thread nD τ).loc main_arg2) (ix3 0 k ⟨768 + l, by omega⟩) := by
  rw [V_at]
  entry_read
  pointwise

/-- A part of the packed weight: the window branch's. -/
theorem v6_at (c : Dev nD) (k : Fin 1024) (l : Fin 256) :
    (V m c main_v6 : FVec Ideal S1024x256 .f32) (ix2 k l) = m ((c : Thread nD τ).loc main_arg2) (ix3 0 k ⟨1024 + l, by omega⟩) := by
  rw [V_at]
  entry_read
  pointwise

/-- A part of the packed weight: the selected branch's, by head. -/
theorem v14_at (c : Dev nD) (k : Fin 1024) (l : Fin 256) :
    (V m c main_v14 : FVec Ideal S1024x256 .f32) (ix2 k l) = m ((c : Thread nD τ).loc main_arg2) (ix3 0 k ⟨768 + byGroup l, by omega⟩) := by
  rw [V_at]
  entry_read
  pointwise
  rfl

/-- A part of the packed weight: the window branch's, by head. -/
theorem v17_at (c : Dev nD) (k : Fin 1024) (l : Fin 256) :
    (V m c main_v17 : FVec Ideal S1024x256 .f32) (ix2 k l) = m ((c : Thread nD τ).loc main_arg2) (ix3 0 k ⟨1024 + byGroup l, by omega⟩) := by
  rw [V_at]
  entry_read
  pointwise
  rfl

/-- A part of the packed weight: the recurrence's. -/
theorem v18_at (c : Dev nD) (k : Fin 1024) (l : Fin 512) :
    (V m c main_v18 : FVec Ideal S1024x512 .f32) (ix2 k l) = m ((c : Thread nD τ).loc main_arg2) (ix3 0 k ⟨1304 + l, by omega⟩) := by
  rw [V_at]
  entry_read
  pointwise

/-- A part of the packed weight: the gates', twelve lanes of each 128, zero in the others. -/
theorem v10_at (c : Dev nD) (k : Fin 1024) (l : Fin 256) :
    @Eq EReal ((V m c main_v10 : FVec Ideal S1024x256 .f32) (ix2 k l)) <|
      if h : (l : ℕ) % 128 < 12 then (m ((c : Thread nD τ).loc main_arg2) (ix3 0 k ⟨1280 + ((l : ℕ) / 128 * 12 + (l : ℕ) % 128), by omega⟩)) else 0 := by
  rw [V_at]
  entry_read
  simp only [StableHlo.TRef.toBuf, StableHlo.TRef.ofBuf, cast_cast, cast_eq]
  pointwise
  split_ifs <;> first
    | omega
    | rfl
    | simp [FloatOps.sitofp]

/-- The packed weight's block, at an element. -/
theorem pack_at (c : Dev nD) (t : Fin cfg0.N) (k : Fin 1024) (l : Fin 2560) :
    iblk m c 2 t (ix2 k l) = packed (fun i j => m ((c : Thread nD τ).loc main_arg2) (ix3 0 i j)) k l := by
  have e : iblk m c 2 t (ix2 k l) = V m c main_v20 (ix2 k l) := by
    blk_simp [iblk]
    blk_ext [idx t]
  rw [e, v20_read]
  refine (side_at _ _ _ _ _ _ _ _ k l).trans ?_
  unfold packed
  by_cases h0 : (l : ℕ) < 512
  · simp only [dif_pos (show (l : ℕ) < 512 by omega), dif_pos (show (l : ℕ) < 1280 by omega)]
    exact (v11_at m c k _).trans (congrArg (m ((c : Thread nD τ).loc main_arg2)) (by idx_ext <;> simp <;> omega))
  by_cases h1 : (l : ℕ) < 768
  · simp only [dif_neg (show ¬ (l : ℕ) < 512 by omega), dif_pos (show (l : ℕ) < 768 by omega), dif_pos (show (l : ℕ) < 1280 by omega)]
    exact (v4_at m c k _).trans (congrArg (m ((c : Thread nD τ).loc main_arg2)) (by idx_ext <;> simp <;> omega))
  by_cases h2 : (l : ℕ) < 1024
  · simp only [dif_neg (show ¬ (l : ℕ) < 512 by omega), dif_neg (show ¬ (l : ℕ) < 768 by omega), dif_pos (show (l : ℕ) < 1024 by omega), dif_pos (show (l : ℕ) < 1280 by omega)]
    exact (v5_at m c k _).trans (congrArg (m ((c : Thread nD τ).loc main_arg2)) (by idx_ext <;> simp <;> omega))
  by_cases h3 : (l : ℕ) < 1280
  · simp only [dif_neg (show ¬ (l : ℕ) < 512 by omega), dif_neg (show ¬ (l : ℕ) < 768 by omega), dif_neg (show ¬ (l : ℕ) < 1024 by omega), dif_pos (show (l : ℕ) < 1280 by omega)]
    exact (v6_at m c k _).trans (congrArg (m ((c : Thread nD τ).loc main_arg2)) (by idx_ext <;> simp <;> omega))
  by_cases h4 : (l : ℕ) < 1536
  · simp only [dif_neg (show ¬ (l : ℕ) < 512 by omega), dif_neg (show ¬ (l : ℕ) < 768 by omega), dif_neg (show ¬ (l : ℕ) < 1024 by omega), dif_neg (show ¬ (l : ℕ) < 1280 by omega), dif_pos (show (l : ℕ) < 1536 by omega)]
    exact (v14_at m c k _)
  by_cases h5 : (l : ℕ) < 1792
  · simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_pos (show (l : ℕ) < 1792 by omega)]
    exact (v17_at m c k _)
  by_cases h6 : (l : ℕ) < 2048
  · simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_pos (show (l : ℕ) < 2048 by omega)]
    exact (v10_at m c k _)
  simp only [dif_neg (show ¬ (l : ℕ) < 512 by omega), dif_neg (show ¬ (l : ℕ) < 768 by omega), dif_neg (show ¬ (l : ℕ) < 1024 by omega), dif_neg (show ¬ (l : ℕ) < 1280 by omega), dif_neg (show ¬ (l : ℕ) < 1536 by omega), dif_neg (show ¬ (l : ℕ) < 1792 by omega), dif_neg (show ¬ (l : ℕ) < 2048 by omega)]
  exact (v18_at m c k _)

/-- A point's row against a packed column is a token's normed row against the column it is the packing of. -/
theorem proj_at (c : Dev nD) (t : Fin cfg0.N) (r : Fin 128) (b : Fin 1) (s : Fin 128) (hs : s.val = t.val * 128 + r)
    (l : Fin 2560) (l' : Fin 1816) (h : ∀ (w : Fin 1024 → Fin 1816 → EReal) k, packed w k l = w k l') :
    dot (rms len1024 (fun i => iblk m c 0 t (ix2 r i)) fun i => iblk m c 1 t (ix2 0 i)) (fun i => iblk m c 2 t (ix2 i l))
      = (Cert.InprojSRefIdeal.refZ (m ((c : Thread nD τ).loc main_arg0)) (m ((c : Thread nD τ).loc main_arg1)) (m ((c : Thread nD τ).loc main_arg2))) (ix3 b s l') := by
  rw [Cert.InprojSRefIdeal.refZ_at]
  simp only [x_at m c t r _ b s hs, g_at, pack_at, h]

/-- A point's row against a spare gate lane's column is zero. -/
theorem spare_at (c : Dev nD) (t : Fin cfg0.N) (x : Fin 1024 → EReal) (l : Fin 2560) (h : ∀ w k, packed w k l = 0) :
    dot x (fun i => iblk m c 2 t (ix2 i l)) = 0 := by
  simp only [pack_at, h, dot_zero]

/-- After the run the array of the queries is the reference's. -/
theorem final3 (c : Dev nD) :
    (dats m 0 c).arrAt 3 (cfgs 0).N = Cert.InprojSRefIdeal.refQOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have ht : t.val < 1 := lt_of_lt_of_eq t.isLt N_0
  have he : (((cfg0.win 3).blk t).view.emb (ix2 y0 y1) : S128x512.Idx) = ix2 ⟨t.val * 128 + y0, by omega⟩ y1 := by
    blk_ext [idx t]
  refine (out3_at _ _ _ y0 y1).trans (Eq.trans ?_ ((congrArg _ he).trans
    (Cert.InprojSRefIdeal.refQ_at _ 0 ⟨t.val * 128 + y0, by omega⟩ _ (by simp <;> omega) y1)).symm)
  exact proj_at m c t y0 0 ⟨t.val * 128 + y0, by omega⟩ rfl _ _ fun w k => pack_left w k _ _ (by simp) (by simp; omega)

/-- After the run the array of the compressed branch's keys and values is the reference's. -/
theorem final4 (c : Dev nD) :
    (dats m 0 c).arrAt 4 (cfgs 0).N = Cert.InprojSRefIdeal.refKcOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  have ht : t.val < 1 := lt_of_lt_of_eq t.isLt N_0
  have he : (((cfg0.win 4).blk t).view.emb (ix2 y0 y1) : S128x256.Idx) = ix2 ⟨t.val * 128 + y0, by omega⟩ y1 := by
    blk_ext [idx t]
  refine (out4_at _ _ _ y0 y1).trans (Eq.trans ?_ ((congrArg _ he).trans
    (Cert.InprojSRefIdeal.refKc_at _ 0 ⟨t.val * 128 + y0, by omega⟩ _ (by simp <;> omega) y1)).symm)
  exact proj_at m c t y0 0 ⟨t.val * 128 + y0, by omega⟩ rfl _ _ fun w k => pack_left w k _ _ (by simp) (by simp; omega)

/-- After the run the array of the selected branch's keys and values is the reference's. -/
theorem final5 (c : Dev nD) :
    (dats m 0 c).arrAt 5 (cfgs 0).N = Cert.InprojSRefIdeal.refKsOut (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  have ht : t.val < 1 := lt_of_lt_of_eq t.isLt N_0
  have he : (((cfg0.win 5).blk t).view.emb (ix2 y0 y1) : S128x256.Idx) = ix2 ⟨t.val * 128 + y0, by omega⟩ y1 := by
    blk_ext [idx t]
  refine (out5_at _ _ _ y0 y1).trans (Eq.trans ?_ ((congrArg _ he).trans
    (Cert.InprojSRefIdeal.refKs_at _ 0 ⟨t.val * 128 + y0, by omega⟩ _ (by simp <;> omega) y1)).symm)
  exact proj_at m c t y0 0 ⟨t.val * 128 + y0, by omega⟩ rfl _ _ fun w k => pack_left w k _ _ (by simp) (by simp; omega)

/-- After the run the array of the window branch's keys and values is the reference's. -/
theorem final6 (c : Dev nD) :
    (dats m 0 c).arrAt 6 (cfgs 0).N = Cert.InprojSRefIdeal.refKwOut (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  have ht : t.val < 1 := lt_of_lt_of_eq t.isLt N_0
  have he : (((cfg0.win 6).blk t).view.emb (ix2 y0 y1) : S128x256.Idx) = ix2 ⟨t.val * 128 + y0, by omega⟩ y1 := by
    blk_ext [idx t]
  refine (out6_at _ _ _ y0 y1).trans (Eq.trans ?_ ((congrArg _ he).trans
    (Cert.InprojSRefIdeal.refKw_at _ 0 ⟨t.val * 128 + y0, by omega⟩ _ (by simp <;> omega) y1)).symm)
  exact proj_at m c t y0 0 ⟨t.val * 128 + y0, by omega⟩ rfl _ _ fun w k => pack_left w k _ _ (by simp) (by simp; omega)

/-- After the run the array of the selected branch's keys and values by head is the reference's. -/
theorem final7 (c : Dev nD) :
    (dats m 0 c).arrAt 7 (cfgs 0).N = Cert.InprojSRefIdeal.refKsgOut (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  have ht : t.val < 1 := lt_of_lt_of_eq t.isLt N_0
  have he : (((cfg0.win 7).blk t).view.emb (ix2 y0 y1) : S128x256.Idx) = ix2 ⟨t.val * 128 + y0, by omega⟩ y1 := by
    blk_ext [idx t]
  refine (out7_at _ _ _ y0 y1).trans (Eq.trans ?_ ((congrArg _ he).trans
    (Cert.InprojSRefIdeal.refKsg_at _ 0 ⟨t.val * 128 + y0, by omega⟩ _ (by simp <;> omega) y1)).symm)
  exact proj_at m c t y0 0 ⟨t.val * 128 + y0, by omega⟩ rfl _ _ fun w k => pack_sel w k _ _ y1 rfl rfl

/-- After the run the array of the window branch's keys and values by head is the reference's. -/
theorem final8 (c : Dev nD) :
    (dats m 0 c).arrAt 8 (cfgs 0).N = Cert.InprojSRefIdeal.refKwgOut (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  have ht : t.val < 1 := lt_of_lt_of_eq t.isLt N_0
  have he : (((cfg0.win 8).blk t).view.emb (ix2 y0 y1) : S128x256.Idx) = ix2 ⟨t.val * 128 + y0, by omega⟩ y1 := by
    blk_ext [idx t]
  refine (out8_at _ _ _ y0 y1).trans (Eq.trans ?_ ((congrArg _ he).trans
    (Cert.InprojSRefIdeal.refKwg_at _ 0 ⟨t.val * 128 + y0, by omega⟩ _ (by simp <;> omega) y1)).symm)
  exact proj_at m c t y0 0 ⟨t.val * 128 + y0, by omega⟩ rfl _ _ fun w k => pack_win w k _ _ y1 rfl rfl

/-- After the run the array of the gates is the reference's. -/
theorem final9 (c : Dev nD) :
    (dats m 0 c).arrAt 9 (cfgs 0).N = Cert.InprojSRefIdeal.refGateOut (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  have ht : t.val < 1 := lt_of_lt_of_eq t.isLt N_0
  have he : (((cfg0.win 9).blk t).view.emb (ix2 y0 y1) : S128x256.Idx) = ix2 ⟨t.val * 128 + y0, by omega⟩ y1 := by
    blk_ext [idx t]
  refine (out9_at _ _ _ y0 y1).trans (Eq.trans ?_ ((congrArg _ he).trans
    (Cert.InprojSRefIdeal.refGate_at _ 0 ⟨t.val * 128 + y0, by omega⟩ _ (by simp <;> omega) y1)).symm)
  unfold gateLane
  split_ifs with h
  · exact congrArg Ideal.logistic (proj_at m c t y0 0 ⟨t.val * 128 + y0, by omega⟩ rfl _ _ fun w k => pack_gate w k _ _ y1 h rfl rfl)
  · exact (congrArg Ideal.logistic (spare_at m c t _ _ fun w k => pack_spare w k _ y1 h rfl)).trans logistic_zero

/-- After the run the array of the recurrence's inputs is the reference's. -/
theorem final10 (c : Dev nD) :
    (dats m 0 c).arrAt 10 (cfgs 0).N = Cert.InprojSRefIdeal.refUOut (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  idx_vars y
  have ht : t.val < 1 := lt_of_lt_of_eq t.isLt N_0
  have he : (((cfg0.win 10).blk t).view.emb (ix2 y0 y1) : S128x512.Idx) = ix2 ⟨t.val * 128 + y0, by omega⟩ ⟨t.val * 512 + y1, by omega⟩ := by
    blk_ext [idx t]
  refine (out10_at _ _ _ y0 y1).trans (Eq.trans ?_ ((congrArg _ he).trans
    (Cert.InprojSRefIdeal.refU_at _ 0 ⟨t.val * 128 + y0, by omega⟩ _ y1 (by simp <;> omega))).symm)
  exact proj_at m c t y0 0 ⟨t.val * 128 + y0, by omega⟩ rfl _ _ fun w k => pack_u w k _ _ y1 rfl rfl

end Cert.InprojSIdeal

end
-- ==== Proof.InprojSClaims.lean ====
/- The claims about InprojS: the three programs' frames, and the call's arrays equal to the reference's. -/
module

public import proofs.«01_k».proof.Defs
public import proofs.«01_k».proof.Proof.Gen.InprojS.Frame
public import proofs.«01_k».proof.Proof.Gen.InprojSRefIdeal.Run
public import proofs.«01_k».proof.Proof.InprojS

@[expose] public section

set_option maxRecDepth 16384

noncomputable section

namespace Cert.Proof.InprojSClaims

open Idealize.ShloMosaic Idealize.SL.Sem

/-- The program, its idealization and the reference run to the end and leave their arguments as they were. -/
theorem frame : Cert.quiescent_InprojS := fun m g _ => Cert.InprojS.Gen.frame m g

theorem frameIdeal : Cert.quiescent_InprojSIdeal := fun m g _ => Cert.InprojSIdeal.Gen.frame m g

theorem frameRef : Cert.quiescent_InprojSRefIdeal := by
  intro m g _
  exact (θ_run Cert.InprojSRefIdeal.defs _ _).mono (fun r h => ⟨fun c => (h c).2.2.2.2.2.2.2.2, sem_eq_zero_of_no_sems (by decide) r.2⟩)
    (Cert.InprojSRefIdeal.Value.run (F := Ideal) m g)

/-- The reference ends with each result the array its row-by-row account names. -/
theorem refRun (m : (ℓ : Loc Cert.InprojSRefIdeal.nD Cert.InprojSRefIdeal.τ Cert.InprojSRefIdeal.sig) → Buf (Elt Ideal) ℓ) (g : Dev Cert.InprojSRefIdeal.nD → PrngReg) :
    θ_run Cert.InprojSRefIdeal.defs (onTc (τ := Cert.InprojSRefIdeal.τ) (Cert.InprojSRefIdeal.main (F := Ideal))) ⟨m, fun _ => 0, g⟩ fun r => ∀ c : Dev Cert.InprojSRefIdeal.nD,
      r.2.mem ((c.tc : Thread Cert.InprojSRefIdeal.nD Cert.InprojSRefIdeal.τ).loc Cert.InprojSRefIdeal.main_v32) = Cert.InprojSRefIdeal.refQOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v33) = Cert.InprojSRefIdeal.refKcOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v34) = Cert.InprojSRefIdeal.refKsOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v35) = Cert.InprojSRefIdeal.refKwOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v38) = Cert.InprojSRefIdeal.refKsgOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v41) = Cert.InprojSRefIdeal.refKwgOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v42) = Cert.InprojSRefIdeal.refGateOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_v44) = Cert.InprojSRefIdeal.refUOut (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2))
      ∧ r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2) :=
  (θ_run Cert.InprojSRefIdeal.defs _ _).mono (fun r h c => ⟨(h c).1, (h c).2.1, (h c).2.2.1, (h c).2.2.2.1, (h c).2.2.2.2.1, (h c).2.2.2.2.2.1, (h c).2.2.2.2.2.2.1, (h c).2.2.2.2.2.2.2⟩)
    (Cert.InprojSRefIdeal.Value.run (F := Ideal) m g)

/-- From equal arguments the call and the reference end with equal results. -/
theorem algebraic : Cert.algebraic_InprojSIdeal_InprojSRefIdeal := by
  intro m g m' g' _ hagree
  refine ⟨fun c => (Cert.InprojSIdeal.Gen.dats m 0 c).arrAt 3 (Cert.InprojSIdeal.cfgs 0).N, fun c => (Cert.InprojSIdeal.Gen.dats m 0 c).arrAt 4 (Cert.InprojSIdeal.cfgs 0).N, fun c => (Cert.InprojSIdeal.Gen.dats m 0 c).arrAt 5 (Cert.InprojSIdeal.cfgs 0).N, fun c => (Cert.InprojSIdeal.Gen.dats m 0 c).arrAt 6 (Cert.InprojSIdeal.cfgs 0).N, fun c => (Cert.InprojSIdeal.Gen.dats m 0 c).arrAt 7 (Cert.InprojSIdeal.cfgs 0).N, fun c => (Cert.InprojSIdeal.Gen.dats m 0 c).arrAt 8 (Cert.InprojSIdeal.cfgs 0).N, fun c => (Cert.InprojSIdeal.Gen.dats m 0 c).arrAt 9 (Cert.InprojSIdeal.cfgs 0).N, fun c => (Cert.InprojSIdeal.Gen.dats m 0 c).arrAt 10 (Cert.InprojSIdeal.cfgs 0).N,
    Cert.InprojSIdeal.Value.run_blocks m g, (θ_run Cert.InprojSRefIdeal.defs _ _).mono (fun r h c => ?_) (refRun m' g')⟩
  obtain ⟨a0, a1, a2⟩ := hagree c
  obtain ⟨e3, e4, e5, e6, e7, e8, e9, e10, ha⟩ := h c
  rw [a0, a1, a2] at e3 e4 e5 e6 e7 e8 e9 e10
  exact ⟨e3.trans (Cert.InprojSIdeal.final3 m c).symm, e4.trans (Cert.InprojSIdeal.final4 m c).symm, e5.trans (Cert.InprojSIdeal.final5 m c).symm, e6.trans (Cert.InprojSIdeal.final6 m c).symm, e7.trans (Cert.InprojSIdeal.final7 m c).symm, e8.trans (Cert.InprojSIdeal.final8 m c).symm, e9.trans (Cert.InprojSIdeal.final9 m c).symm, e10.trans (Cert.InprojSIdeal.final10 m c).symm, ha⟩

end Cert.Proof.InprojSClaims

end
-- ==== Proof.MergeRef.lean ====
/- What the reference of the merge call computes, row by row. -/
module

public import proofs.«01_k».proof.Proof.Gen.MergeRefIdeal.Run
public import proofs.«01_k».proof.Proof.Rows

@[expose] public section

set_option maxRecDepth 16384

noncomputable section

open Idealize.ShloMosaic Idealize.ShloMosaic.TcCoe Idealize.SL.Sem Cert.Rows

namespace Cert.MergeRefIdeal

open Cert.MergeRefIdeal.Gen

/-- The attention rows, normed. -/
def refN (A0 : FVec Ideal S8x2048x512 .f32) (A3 : FVec Ideal S1x1024 .f32) : FVec Ideal S8x2048x512 .f32 :=
  mulf (mulf A0 (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf A0 A0) (constant (F := Ideal) S_ .f32 0x00000000#32) reducesTo_S8x2048x512_S8x2048_d2 h_S_)) (broadcastInDim S8x2048x1 ![] bcast_S_S8x2048x1 (constant (F := Ideal) S_ .f32 0x44000000#32))) (broadcastInDim S8x2048x1 ![] bcast_S_S8x2048x1 (constant (F := Ideal) S_ .f32 0x358637BD#32)))))) (broadcastInDim S8x2048x512 ![0, 1, 2] bcast_S1x1x512_S8x2048x512_0_1_2 (broadcastInDim S1x1x512 ![2] bcast_S512_S1x1x512_2 (extractStridedSlice S512 ![0] (shapeCast S1024 A3 shapeCasts_S1x1024_S1024) slices_S1024_S512_0)))

/-- The recurrence rows, normed. -/
def refS (A1 : FVec Ideal S2048x8x512 .f32) (A3 : FVec Ideal S1x1024 .f32) : FVec Ideal S8x2048x512 .f32 :=
  mulf (mulf (transpose S8x2048x512 [1, 0, 2] A1 transposes_S2048x8x512_S8x2048x512_1_0_2) (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf (transpose S8x2048x512 [1, 0, 2] A1 transposes_S2048x8x512_S8x2048x512_1_0_2) (transpose S8x2048x512 [1, 0, 2] A1 transposes_S2048x8x512_S8x2048x512_1_0_2)) (constant (F := Ideal) S_ .f32 0x00000000#32) reducesTo_S8x2048x512_S8x2048_d2 h_S_)) (broadcastInDim S8x2048x1 ![] bcast_S_S8x2048x1 (constant (F := Ideal) S_ .f32 0x44000000#32))) (broadcastInDim S8x2048x1 ![] bcast_S_S8x2048x1 (constant (F := Ideal) S_ .f32 0x358637BD#32)))))) (broadcastInDim S8x2048x512 ![0, 1, 2] bcast_S1x1x512_S8x2048x512_0_1_2 (broadcastInDim S1x1x512 ![2] bcast_S512_S1x1x512_2 (extractStridedSlice S512 ![512] (shapeCast S1024 A3 shapeCasts_S1x1024_S1024) slices_S1024_S512_512)))

/-- The two halves side by side. -/
def refM (VrefN : FVec Ideal S8x2048x512 .f32) (VrefS : FVec Ideal S8x2048x512 .f32) : FVec Ideal S8x2048x1024 .f32 :=
  concatenate S8x2048x1024 2 [⟨S8x2048x512, VrefN⟩, ⟨S8x2048x512, VrefS⟩] concatenates_S8x2048x512_S8x2048x512_S8x2048x1024_d2

/-- The merged rows through the output weight. -/
def refP (A4 : FVec Ideal S1x1024x1024 .f32) (VrefM : FVec Ideal S8x2048x1024 .f32) : FVec Ideal S8x2048x1024 .f32 :=
  Host.dotGeneral dot_S8x2048x1024_S1024x1024_S8x2048x1024_2_0_01_1_n_n none VrefM (shapeCast S1024x1024 A4 shapeCasts_S1x1024x1024_S1024x1024)

/-- The residual stream after the merge. -/
def refX (A2 : FVec Ideal S8x2048x1024 .f32) (A5 : FVec Ideal S1x6x1024 .f32) (VrefP : FVec Ideal S8x2048x1024 .f32) : FVec Ideal S8x2048x1024 .f32 :=
  addf A2 (mulf (mulf VrefP (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf VrefP VrefP) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] (shapeCast S6x1024 A5 shapeCasts_S1x6x1024_S6x1024) slices_S6x1024_S1x1024_1_0) shapeCasts_S1x1024_S1024))))

/-- The queries of the cross-attention. -/
def refQ (A5 : FVec Ideal S1x6x1024 .f32) (A6 : FVec Ideal S1x1024x512 .f32) (VrefX : FVec Ideal S8x2048x1024 .f32) : FVec Ideal S8x2048x512 .f32 :=
  Host.dotGeneral dot_S8x2048x1024_S1024x512_S8x2048x512_2_0_01_1_n_n none (mulf (mulf VrefX (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf VrefX VrefX) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![2, 0] (shapeCast S6x1024 A5 shapeCasts_S1x6x1024_S6x1024) slices_S6x1024_S1x1024_2_0) shapeCasts_S1x1024_S1024)))) (shapeCast S1024x512 A6 shapeCasts_S1x1024x512_S1024x512)

/-- The residual stream, a row a token. -/
def refX2 (VrefX : FVec Ideal S8x2048x1024 .f32) : FVec Ideal S16384x1024 .f32 :=
  shapeCast S16384x1024 VrefX shapeCasts_S8x2048x1024_S16384x1024

/-- The queries, a row a token. -/
def refQ2 (VrefQ : FVec Ideal S8x2048x512 .f32) : FVec Ideal S16384x512 .f32 :=
  shapeCast S16384x512 VrefQ shapeCasts_S8x2048x512_S16384x512

/-- The residual stream the reference computes, from its arguments. -/
def refOutX (A0 : FVec Ideal S8x2048x512 .f32) (A1 : FVec Ideal S2048x8x512 .f32) (A2 : FVec Ideal S8x2048x1024 .f32) (A3 : FVec Ideal S1x1024 .f32) (A4 : FVec Ideal S1x1024x1024 .f32) (A5 : FVec Ideal S1x6x1024 .f32) : FVec Ideal S16384x1024 .f32 :=
  refX2 (refX A2 A5 (refP A4 (refM (refN A0 A3) (refS A1 A3))))

/-- The queries the reference computes, from its arguments. -/
def refOutQ (A0 : FVec Ideal S8x2048x512 .f32) (A1 : FVec Ideal S2048x8x512 .f32) (A2 : FVec Ideal S8x2048x1024 .f32) (A3 : FVec Ideal S1x1024 .f32) (A4 : FVec Ideal S1x1024x1024 .f32) (A5 : FVec Ideal S1x6x1024 .f32) (A6 : FVec Ideal S1x1024x512 .f32) : FVec Ideal S16384x512 .f32 :=
  refQ2 (refQ A5 A6 (refX A2 A5 (refP A4 (refM (refN A0 A3) (refS A1 A3)))))

theorem refN_at (A0 : FVec Ideal S8x2048x512 .f32) (A3 : FVec Ideal S1x1024 .f32) (b : Fin 8) (s : Fin 2048) (k : Fin 512) :
    refN A0 A3 (ix3 b s k) = rms len512 (fun i => A0 (ix3 b s i)) (fun i => A3 (ix2 0 ⟨i, by omega⟩)) k := by
  pointwise [refN, rms]

theorem refS_at (A1 : FVec Ideal S2048x8x512 .f32) (A3 : FVec Ideal S1x1024 .f32) (b : Fin 8) (s : Fin 2048) (k : Fin 512) :
    refS A1 A3 (ix3 b s k) = rms len512 (fun i => A1 (ix3 s b i)) (fun i => A3 (ix2 0 ⟨512 + i, by omega⟩)) k := by
  pointwise [refS, rms]

theorem refM_lo (N S : FVec Ideal S8x2048x512 .f32) (b : Fin 8) (s : Fin 2048) (k : Fin 512) :
    refM N S (ix3 b s ⟨k, by omega⟩) = N (ix3 b s k) := by
  pointwise [refM]

theorem refM_hi (N S : FVec Ideal S8x2048x512 .f32) (b : Fin 8) (s : Fin 2048) (k : Fin 512) :
    refM N S (ix3 b s ⟨512 + k, by omega⟩) = S (ix3 b s k) := by
  pointwise [refM]

theorem refP_at (A4 : FVec Ideal S1x1024x1024 .f32) (M : FVec Ideal S8x2048x1024 .f32) (b : Fin 8) (s : Fin 2048) (l : Fin 1024) :
    refP A4 M (ix3 b s l) = dot (fun i => M (ix3 b s i)) (fun i => A4 (ix3 0 i l)) := by
  pointwise [refP, dot]

theorem refX_at (A2 : FVec Ideal S8x2048x1024 .f32) (A5 : FVec Ideal S1x6x1024 .f32) (P : FVec Ideal S8x2048x1024 .f32) (b : Fin 8) (s : Fin 2048) (k : Fin 1024) :
    refX A2 A5 P (ix3 b s k) = A2 (ix3 b s k) + rms len1024 (fun i => P (ix3 b s i)) (fun i => A5 (ix3 0 1 i)) k := by
  pointwise [refX, rms]

theorem refQ_at (A5 : FVec Ideal S1x6x1024 .f32) (A6 : FVec Ideal S1x1024x512 .f32) (X : FVec Ideal S8x2048x1024 .f32) (b : Fin 8) (s : Fin 2048) (j : Fin 512) :
    refQ A5 A6 X (ix3 b s j)
      = dot (rms len1024 (fun i => X (ix3 b s i)) (fun i => A5 (ix3 0 2 i))) (fun i => A6 (ix3 0 i j)) := by
  pointwise [refQ, rms, dot]

/-- The residual stream of a token, before it is laid out a row a token. -/
theorem refRow_at (A0 : FVec Ideal S8x2048x512 .f32) (A1 : FVec Ideal S2048x8x512 .f32) (A2 : FVec Ideal S8x2048x1024 .f32) (A3 : FVec Ideal S1x1024 .f32) (A4 : FVec Ideal S1x1024x1024 .f32) (A5 : FVec Ideal S1x6x1024 .f32) (b : Fin 8) (s : Fin 2048) (k : Fin 1024) :
    (refX A2 A5 (refP A4 (refM (refN A0 A3) (refS A1 A3)))) (ix3 b s k)
      = mergeRow (fun i => A0 (ix3 b s i)) (fun i => A1 (ix3 s b i)) (fun i => A3 (ix2 0 i)) (fun i l => A4 (ix3 0 i l))
          (fun i => A2 (ix3 b s i)) (fun i => A5 (ix3 0 1 i)) k := by
  unfold mergeRow
  simp only [refX_at, refP_at, dot_halves, refM_lo, refM_hi, refN_at, refS_at]

/-- The reference's residual stream is the merge row function of its token. -/
theorem refOutX_at (A0 : FVec Ideal S8x2048x512 .f32) (A1 : FVec Ideal S2048x8x512 .f32) (A2 : FVec Ideal S8x2048x1024 .f32) (A3 : FVec Ideal S1x1024 .f32) (A4 : FVec Ideal S1x1024x1024 .f32) (A5 : FVec Ideal S1x6x1024 .f32) (b : Fin 8) (s : Fin 2048) (r : Fin 16384) (hr : (r : ℕ) = b * 2048 + s) (k : Fin 1024) :
    refOutX A0 A1 A2 A3 A4 A5 (ix2 r k)
      = mergeRow (fun i => A0 (ix3 b s i)) (fun i => A1 (ix3 s b i)) (fun i => A3 (ix2 0 i)) (fun i l => A4 (ix3 0 i l))
          (fun i => A2 (ix3 b s i)) (fun i => A5 (ix3 0 1 i)) k := by
  refine Eq.trans ?_ (refRow_at A0 A1 A2 A3 A4 A5 b s k)
  unfold refOutX
  generalize (refX A2 A5 (refP A4 (refM (refN A0 A3) (refS A1 A3)))) = X
  pointwise [refX2]
  exact congrArg X (by idx_ext <;> simp <;> omega)

/-- The reference's queries are the normed residual row against the query weight. -/
theorem refOutQ_at (A0 : FVec Ideal S8x2048x512 .f32) (A1 : FVec Ideal S2048x8x512 .f32) (A2 : FVec Ideal S8x2048x1024 .f32) (A3 : FVec Ideal S1x1024 .f32) (A4 : FVec Ideal S1x1024x1024 .f32) (A5 : FVec Ideal S1x6x1024 .f32) (A6 : FVec Ideal S1x1024x512 .f32) (b : Fin 8) (s : Fin 2048) (r : Fin 16384) (hr : (r : ℕ) = b * 2048 + s) (j : Fin 512) :
    refOutQ A0 A1 A2 A3 A4 A5 A6 (ix2 r j)
      = dot (rms len1024 (mergeRow (fun i => A0 (ix3 b s i)) (fun i => A1 (ix3 s b i)) (fun i => A3 (ix2 0 i)) (fun i l => A4 (ix3 0 i l))
          (fun i => A2 (ix3 b s i)) (fun i => A5 (ix3 0 1 i)))
          (fun i => A5 (ix3 0 2 i))) (fun i => A6 (ix3 0 i j)) := by
  have h : (refQ A5 A6 (refX A2 A5 (refP A4 (refM (refN A0 A3) (refS A1 A3))))) (ix3 b s j) = _ := refQ_at _ _ _ b s j
  simp only [refRow_at] at h
  refine Eq.trans ?_ h
  unfold refOutQ
  generalize (refQ A5 A6 (refX A2 A5 (refP A4 (refM (refN A0 A3) (refS A1 A3))))) = Q
  pointwise [refQ2]
  exact congrArg Q (by idx_ext <;> simp <;> omega)

end Cert.MergeRefIdeal

end
-- ==== Proof.Merge.lean ====
/- The merge call: the two arrays it leaves are the reference's. -/
module

public import proofs.«01_k».proof.Proof.Gen.MergeIdeal.Frame
public import proofs.«01_k».proof.Proof.MergeRef

@[expose] public section

set_option maxRecDepth 16384

noncomputable section

open Idealize.ShloMosaic Idealize.ShloMosaic.TcCoe Idealize.SL.Sem Cert.Rows

namespace Cert.MergeIdeal

open Cert.MergeIdeal.Gen
open Idealize.ShloMosaic.Pipeline (Dat)

variable (m : (ℓ : Loc nD τ sig) → Buf (Elt Ideal) ℓ)

theorem pay2_at (G : FVec Ideal S1x1024 .f32) (O : FVec Ideal S256x512 .f32) (W : FVec Ideal S512x1024 .bf16)
    (r : Fin 256) (l : Fin 1024) :
    k0_pay2 (F := Ideal) G O W (ix2 r l)
      = dot (rms len512 (fun i => O (ix2 r i)) fun i => G (ix2 0 ⟨i, by omega⟩)) fun i => W (ix2 i l) := by
  pointwise [k0_pay2, k0_pay1, rms, dot]

theorem pay3_at (G : FVec Ideal S1x1024 .f32) (O : FVec Ideal S256x512 .f32) (W : FVec Ideal S512x1024 .bf16)
    (r : Fin 256) (l : Fin 1024) :
    k0_pay3 (F := Ideal) G O W (ix2 r l)
      = dot (rms len512 (fun i => O (ix2 r i)) fun i => G (ix2 0 ⟨512 + i, by omega⟩)) fun i => W (ix2 i l) := by
  pointwise [k0_pay3, k0_pay1, rms, dot]

theorem pay4_at (P Q X : FVec Ideal S256x1024 .f32) (G : FVec Ideal S1x1024 .f32) (r : Fin 256) (k : Fin 1024) :
    k0_pay4 (F := Ideal) P Q X G (ix2 r k)
      = X (ix2 r k) + rms len1024 (fun i => P (ix2 r i) + Q (ix2 r i)) (fun i => G (ix2 0 i)) k := by
  pointwise [k0_pay4, rms]

theorem pay5_at (P Q X : FVec Ideal S256x1024 .f32) (G G' : FVec Ideal S1x1024 .f32) (W : FVec Ideal S1024x512 .bf16)
    (r : Fin 256) (j : Fin 512) :
    k0_pay5 (F := Ideal) P Q X G G' W (ix2 r j)
      = dot (rms len1024 (fun i => k0_pay4 (F := Ideal) P Q X G (ix2 r i)) fun i => G' (ix2 0 i)) fun i => W (ix2 i j) := by
  pointwise [k0_pay5, rms, dot]

/-- The element of the residual stream a point stores: the merge row function of its blocks. -/
theorem outX_at (N S : Vec Ideal S256x512 .f32) (X : Vec Ideal S256x1024 .f32) (G : Vec Ideal S1x1024 .f32)
    (W : Vec Ideal S1024x1024 .bf16) (NG : Vec Ideal S6x1024 .f32) (V : Vec Ideal S1024x512 .bf16) (r : Fin 256) (k : Fin 1024) :
    out0_7 (F := Ideal) N S X G W NG V (ix2 r k)
      = mergeRow (fun i => N (ix2 r i)) (fun i => S (ix2 r i)) (fun i => G (ix2 0 i)) (fun i l => W (ix2 i l))
          (fun i => X (ix2 r i)) (fun i => NG (ix2 1 i)) k := by
  frame_out
  refine (pay4_at _ _ _ _ r k).trans ?_
  simp only [k0_pay6, k0_pay7, pay2_at, pay3_at]
  unfold mergeRow
  refine congrArg₂ (· + ·) ?_ (rms_congr (fun k => congrArg₂ (· + ·) (dot_congr (rms_congr (fun k => ?_) (fun k => ?_)) (fun k => ?_))
    (dot_congr (rms_congr (fun k => ?_) (fun k => ?_)) (fun k => ?_))) (fun k => ?_) k)
  all_goals pointwise

/-- The element of the queries a point stores: its normed residual row against the query weight. -/
theorem outQ_at (N S : Vec Ideal S256x512 .f32) (X : Vec Ideal S256x1024 .f32) (G : Vec Ideal S1x1024 .f32)
    (W : Vec Ideal S1024x1024 .bf16) (NG : Vec Ideal S6x1024 .f32) (V : Vec Ideal S1024x512 .bf16) (r : Fin 256) (j : Fin 512) :
    out0_8 (F := Ideal) N S X G W NG V (ix2 r j)
      = dot (rms len1024 (mergeRow (fun i => N (ix2 r i)) (fun i => S (ix2 r i)) (fun i => G (ix2 0 i)) (fun i l => W (ix2 i l))
          (fun i => X (ix2 r i)) (fun i => NG (ix2 1 i)))
          (fun i => NG (ix2 2 i))) (fun i => V (ix2 i j)) := by
  frame_out
  refine (pay5_at _ _ _ _ _ _ r j).trans ?_
  refine dot_congr (rms_congr (fun k => ?_) (fun k => ?_)) (fun k => ?_)
  · refine (pay4_at _ _ _ _ r k).trans ?_
    simp only [k0_pay6, k0_pay7, pay2_at, pay3_at]
    unfold mergeRow
    refine congrArg₂ (· + ·) ?_ (rms_congr (fun k => congrArg₂ (· + ·) (dot_congr (rms_congr (fun k => ?_) (fun k => ?_)) (fun k => ?_))
      (dot_congr (rms_congr (fun k => ?_) (fun k => ?_)) (fun k => ?_))) (fun k => ?_) k)
    all_goals pointwise
  all_goals pointwise

/-- Which block of each array a grid point stages: its own 256 rows (the recurrence's rows lie a step a row, a sequence
    a column block), everything else whole. -/
theorem idx : ∀ t : Fin cfg0.N, win0_0.index t = ![t.val, 0] ∧ win0_1.index t = ![t.val % 8, t.val / 8]
    ∧ win0_2.index t = ![t.val, 0] ∧ win0_3.index t = ![0, 0] ∧ win0_4.index t = ![0, 0] ∧ win0_5.index t = ![0, 0]
    ∧ win0_6.index t = ![0, 0] ∧ win0_7.index t = ![t.val, 0] ∧ win0_8.index t = ![t.val, 0] :=
  (by decide +kernel : ∀ t : Fin grid0.N, _)

/-- A point's block of the attention is its 256 tokens. -/
theorem n_at (c : Dev nD) (t : Fin cfg0.N) (r : Fin 256) (k : Fin 512) (b : Fin 8) (s : Fin 2048) (hb : b.val = t.val / 8) (hs : s.val = t.val % 8 * 256 + r) :
    iblk m c 0 t (ix2 r k) = m ((c : Thread nD τ).loc main_arg0) (ix3 b s k) := by
  blk_simp [iblk]
  entry_read
  pointwise
  blk_ext [idx t]

/-- A point's block of the recurrence is its 256 tokens. -/
theorem s_at (c : Dev nD) (t : Fin cfg0.N) (r : Fin 256) (k : Fin 512) (b : Fin 8) (s : Fin 2048) (hb : b.val = t.val / 8) (hs : s.val = t.val % 8 * 256 + r) :
    iblk m c 1 t (ix2 r k) = m ((c : Thread nD τ).loc main_arg1) (ix3 s b k) := by
  blk_simp [iblk]
  entry_read
  pointwise
  blk_ext [idx t]

/-- A point's block of the residual stream is its 256 tokens. -/
theorem x_at (c : Dev nD) (t : Fin cfg0.N) (r : Fin 256) (k : Fin 1024) (b : Fin 8) (s : Fin 2048) (hb : b.val = t.val / 8) (hs : s.val = t.val % 8 * 256 + r) :
    iblk m c 2 t (ix2 r k) = m ((c : Thread nD τ).loc main_arg2) (ix3 b s k) := by
  blk_simp [iblk]
  entry_read
  pointwise
  blk_ext [idx t]

/-- The group gain's block is the group gain. -/
theorem gg_at (c : Dev nD) (t : Fin cfg0.N) (k : Fin 1024) :
    iblk m c 3 t (ix2 0 k) = m ((c : Thread nD τ).loc main_arg3) (ix2 0 k) := by
  blk_simp [iblk]
  entry_read
  pointwise
  blk_ext [idx t]

/-- The output weight's block is the output weight. -/
theorem w_at (c : Dev nD) (t : Fin cfg0.N) (k l : Fin 1024) :
    iblk m c 4 t (ix2 k l) = m ((c : Thread nD τ).loc main_arg4) (ix3 0 k l) := by
  blk_simp [iblk]
  entry_read
  pointwise
  blk_ext [idx t]

/-- The gains' block is the gains. -/
theorem g_at (c : Dev nD) (t : Fin cfg0.N) (a : Fin 6) (k : Fin 1024) :
    iblk m c 5 t (ix2 a k) = m ((c : Thread nD τ).loc main_arg5) (ix3 0 a k) := by
  blk_simp [iblk]
  entry_read
  pointwise
  blk_ext [idx t]

/-- The query weight's block is the query weight. -/
theorem xq_at (c : Dev nD) (t : Fin cfg0.N) (k : Fin 1024) (j : Fin 512) :
    iblk m c 6 t (ix2 k j) = m ((c : Thread nD τ).loc main_arg6) (ix3 0 k j) := by
  blk_simp [iblk]
  entry_read
  pointwise
  blk_ext [idx t]

/-- The residual stream after the run is the reference's. -/
theorem finalX (c : Dev nD) :
    (dats m 0 c).arrAt 7 (cfgs 0).N
      = Cert.MergeRefIdeal.refOutX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  have ht : t.val < 64 := lt_of_lt_of_eq t.isLt N_0
  have he : (((cfg0.win 7).blk t).view.emb (ix2 y0 y1) : S16384x1024.Idx) = ix2 ⟨t.val * 256 + y0, by omega⟩ y1 := by
    blk_ext [idx t]
  refine (outX_at _ _ _ _ _ _ _ y0 y1).trans (Eq.trans ?_ ((congrArg _ he).trans
    (Cert.MergeRefIdeal.refOutX_at _ _ _ _ _ _ ⟨t.val / 8, by omega⟩ ⟨t.val % 8 * 256 + y0, by omega⟩ _
      (by simp only; omega) y1)).symm)
  exact mergeRow_congr (fun k => n_at m c t y0 k _ _ rfl rfl) (fun k => s_at m c t y0 k _ _ rfl rfl) (fun k => gg_at m c t k)
    (fun k l => w_at m c t k l) (fun k => x_at m c t y0 k _ _ rfl rfl) (fun k => g_at m c t 1 k) y1

/-- The queries after the run are the reference's. -/
theorem finalQ (c : Dev nD) :
    (dats m 0 c).arrAt 8 (cfgs 0).N
      = Cert.MergeRefIdeal.refOutQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  idx_vars y
  have ht : t.val < 64 := lt_of_lt_of_eq t.isLt N_0
  have he : (((cfg0.win 8).blk t).view.emb (ix2 y0 y1) : S16384x512.Idx) = ix2 ⟨t.val * 256 + y0, by omega⟩ y1 := by
    blk_ext [idx t]
  refine (outQ_at _ _ _ _ _ _ _ y0 y1).trans (Eq.trans ?_ ((congrArg _ he).trans
    (Cert.MergeRefIdeal.refOutQ_at _ _ _ _ _ _ _ ⟨t.val / 8, by omega⟩ ⟨t.val % 8 * 256 + y0, by omega⟩ _
      (by simp only; omega) y1)).symm)
  exact dot_congr (rms_congr (mergeRow_congr (fun k => n_at m c t y0 k _ _ rfl rfl) (fun k => s_at m c t y0 k _ _ rfl rfl) (fun k => gg_at m c t k)
    (fun k l => w_at m c t k l) (fun k => x_at m c t y0 k _ _ rfl rfl) (fun k => g_at m c t 1 k)) fun k => g_at m c t 2 k) fun k => xq_at m c t k y1

end Cert.MergeIdeal

end
-- ==== Proof.MergeClaims.lean ====
/- The claims about Merge: the three programs' frames, and the call's arrays equal to the reference's. -/
module

public import proofs.«01_k».proof.Defs
public import proofs.«01_k».proof.Proof.Gen.Merge.Frame
public import proofs.«01_k».proof.Proof.Gen.MergeRefIdeal.Run
public import proofs.«01_k».proof.Proof.Merge

@[expose] public section

set_option maxRecDepth 16384

noncomputable section

namespace Cert.Proof.MergeClaims

open Idealize.ShloMosaic Idealize.SL.Sem

/-- The program, its idealization and the reference run to the end and leave their arguments as they were. -/
theorem frame : Cert.quiescent_Merge := fun m g _ => Cert.Merge.Gen.frame m g

theorem frameIdeal : Cert.quiescent_MergeIdeal := fun m g _ => Cert.MergeIdeal.Gen.frame m g

theorem frameRef : Cert.quiescent_MergeRefIdeal := by
  intro m g _
  exact (θ_run Cert.MergeRefIdeal.defs _ _).mono (fun r h => ⟨fun c => (h c).2.2, sem_eq_zero_of_no_sems (by decide) r.2⟩)
    (Cert.MergeRefIdeal.Value.run (F := Ideal) m g)

/-- From equal arguments the call and the reference end with equal results. -/
theorem algebraic : Cert.algebraic_MergeIdeal_MergeRefIdeal := by
  pair_intro
  · run_from Cert.MergeIdeal.Gen.run_main m g
  · run_from Cert.MergeRefIdeal.Value.run m' g'
    · obtain ⟨h0, h1, h2, h3, h4, h5, h6⟩ := hagree c
      refine Eq.trans ?_ (Cert.MergeIdeal.finalX m c).symm
      rw [← h0, ← h1, ← h2, ← h3, ← h4, ← h5]
      rfl
    · obtain ⟨h0, h1, h2, h3, h4, h5, h6⟩ := hagree c
      refine Eq.trans ?_ (Cert.MergeIdeal.finalQ m c).symm
      rw [← h0, ← h1, ← h2, ← h3, ← h4, ← h5, ← h6]
      rfl

end Cert.Proof.MergeClaims

end
-- ==== Proof.Memkv.lean ====
/- The memory keys and values: the array the call leaves is the reference's normed rows times the weight. -/
module

public import proofs.«01_k».proof.Proof.Gen.MemkvIdeal.Frame
public import proofs.«01_k».proof.Proof.Gen.MemkvRefIdeal.Run
public import proofs.«01_k».proof.Proof.Rows

@[expose] public section

set_option maxRecDepth 16384

noncomputable section

open Idealize.ShloMosaic Idealize.ShloMosaic.TcCoe Idealize.SL.Sem Cert.Rows

namespace Cert.MemkvRefIdeal

open Cert.MemkvRefIdeal.Gen

/-- What the reference computes of the memory tokens, the gain and the weight. -/
def refOut (A0 : FVec Ideal S8x256x1024 .f32) (A1 : FVec Ideal S1x1024 .f32) (A2 : FVec Ideal S1x1024x1024 .f32) :
    FVec Ideal S2048x1024 .f32 :=
  shapeCast S2048x1024 (Host.dotGeneral dot_S8x256x1024_S1024x1024_S8x256x1024_2_0_01_1_n_n none (mulf (mulf A0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf A0 A0) (constant (F := Ideal) S_ .f32 0x00000000#32) reducesTo_S8x256x1024_S8x256_d2 h_S_)) (broadcastInDim S8x256x1 ![] bcast_S_S8x256x1 (constant (F := Ideal) S_ .f32 0x44800000#32))) (broadcastInDim S8x256x1 ![] bcast_S_S8x256x1 (constant (F := Ideal) S_ .f32 0x358637BD#32)))))) (broadcastInDim S8x256x1024 ![0, 1, 2] bcast_S1x1x1024_S8x256x1024_0_1_2 (broadcastInDim S1x1x1024 ![2] bcast_S1024_S1x1x1024_2 (shapeCast _ A1 shapeCasts_S1x1024_S1024)))) (shapeCast _ A2 shapeCasts_S1x1024x1024_S1024x1024)) shapeCasts_S8x256x1024_S2048x1024

/-- The reference's element: the normed row of its memory token against a column of the weight. -/
theorem refOut_at (A0 : FVec Ideal S8x256x1024 .f32) (A1 : FVec Ideal S1x1024 .f32) (A2 : FVec Ideal S1x1024x1024 .f32)
    (r : Fin 2048) (l : Fin 1024) :
    refOut A0 A1 A2 (ix2 r l) = dot (rms len1024 (fun k => A0 (ix3 ⟨r / 256, by omega⟩ ⟨r % 256, by omega⟩ k))
      (fun k => A1 (ix2 0 k))) (fun k => A2 (ix3 0 k l)) := by
  pointwise [refOut, dot, rms]

end Cert.MemkvRefIdeal

namespace Cert.MemkvIdeal

open Cert.MemkvIdeal.Gen
open Idealize.ShloMosaic.Pipeline (Dat)

variable (m : (ℓ : Loc nD τ sig) → Buf (Elt Ideal) ℓ)

/-- The element a point stores: the normed row of its block against a column of the weight. -/
theorem pay_at (X : FVec Ideal S256x1024 .f32) (G : FVec Ideal S1x1024 .f32) (W : FVec Ideal S1024x1024 .bf16)
    (r : Fin 256) (l : Fin 1024) :
    k0_pay1 (F := Ideal) X G W (ix2 r l)
      = dot (rms len1024 (fun k => X (ix2 r k)) (fun k => G (ix2 0 k))) (fun k => W (ix2 k l)) := by
  pointwise [k0_pay1, dot, rms]

/-- Which block of each array a grid point stages: its own 256 rows, and the gain and the weight whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- A point's block of rows is its sequence's memory tokens. -/
theorem rows_at (c : Dev nD) (t : Fin cfg0.N) (r : Fin 256) (k : Fin 1024) (b : Fin 8) (hb : (b : ℕ) = t.val) :
    iblk m c 0 t (ix2 r k) = m ((c : Thread nD τ).loc main_arg0) (ix3 b r k) := by
  blk_simp [iblk]
  entry_read
  pointwise
  blk_ext [idx t]

/-- The gain's block is the gain. -/
theorem gain_at (c : Dev nD) (t : Fin cfg0.N) (k : Fin 1024) :
    iblk m c 1 t (ix2 0 k) = m ((c : Thread nD τ).loc main_arg1) (ix2 0 k) := by
  blk_simp [iblk]
  entry_read
  pointwise
  blk_ext [idx t]

/-- The weight's block is the weight. -/
theorem weight_at (c : Dev nD) (t : Fin cfg0.N) (k l : Fin 1024) :
    iblk m c 2 t (ix2 k l) = m ((c : Thread nD τ).loc main_arg2) (ix3 0 k l) := by
  blk_simp [iblk]
  entry_read
  pointwise
  blk_ext [idx t]

/-- The array after the run is the reference's. -/
theorem final (c : Dev nD) :
    (dats m 0 c).arrAt 3 (cfgs 0).N
      = Cert.MemkvRefIdeal.refOut (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  idx_vars y
  have ht : t.val < 8 := lt_of_lt_of_eq t.isLt N_0
  have he : (((cfg0.win 3).blk t).view.emb (ix2 y0 y1) : S2048x1024.Idx) = ix2 ⟨t.val * 256 + y0, by omega⟩ y1 := by
    blk_ext [idx t]
  refine (pay_at _ _ _ y0 y1).trans (Eq.trans ?_ ((congrArg _ he).trans (Cert.MemkvRefIdeal.refOut_at _ _ _ _ y1)).symm)
  refine dot_congr (rms_congr (fun k => ?_) fun k => gain_at m c t k) fun k => weight_at m c t k y1
  refine (rows_at m c t y0 k ⟨t.val, ht⟩ rfl).trans (congrArg _ ?_)
  idx_ext <;> simp <;> omega

end Cert.MemkvIdeal

end
-- ==== Proof.MemkvClaims.lean ====
/- The claims about Memkv: the three programs' frames, and the call's arrays equal to the reference's. -/
module

public import proofs.«01_k».proof.Defs
public import proofs.«01_k».proof.Proof.Gen.Memkv.Frame
public import proofs.«01_k».proof.Proof.Gen.MemkvRefIdeal.Run
public import proofs.«01_k».proof.Proof.Memkv

@[expose] public section

set_option maxRecDepth 16384

noncomputable section

namespace Cert.Proof.MemkvClaims

open Idealize.ShloMosaic Idealize.SL.Sem

/-- The program, its idealization and the reference run to the end and leave their arguments as they were. -/
theorem frame : Cert.quiescent_Memkv := fun m g _ => Cert.Memkv.Gen.frame m g

theorem frameIdeal : Cert.quiescent_MemkvIdeal := fun m g _ => Cert.MemkvIdeal.Gen.frame m g

theorem frameRef : Cert.quiescent_MemkvRefIdeal := by
  intro m g _
  exact (θ_run Cert.MemkvRefIdeal.defs _ _).mono (fun r h => ⟨fun c => (h c).2, sem_eq_zero_of_no_sems (by decide) r.2⟩)
    (Cert.MemkvRefIdeal.Value.run (F := Ideal) m g)

/-- From equal arguments the call and the reference end with equal results. -/
theorem algebraic : Cert.algebraic_MemkvIdeal_MemkvRefIdeal := by
  pair_intro
  · run_from Cert.MemkvIdeal.Gen.run_main m g
  · run_from Cert.MemkvRefIdeal.Value.run m' g'
    exact (Cert.MemkvIdeal.final m c).symm

end Cert.Proof.MemkvClaims

end
-- ==== Proof.FfnRef.lean ====
/- What the reference of the feed-forward call computes, row by row. -/
module

public import proofs.«01_k».proof.Proof.Gen.FfnRefIdeal.Run
public import proofs.«01_k».proof.Proof.Rows

@[expose] public section

set_option maxRecDepth 16384

noncomputable section

open Idealize.ShloMosaic Idealize.ShloMosaic.TcCoe Idealize.SL.Sem Cert.Rows

namespace Cert.FfnRefIdeal

open Cert.FfnRefIdeal.Gen

/-- The cross-attention output through its projection. -/
def refO (A1 : FVec Ideal S16384x512 .f32) (A3 : FVec Ideal S1x512x1024 .f32) : FVec Ideal S16384x1024 .f32 :=
  Host.dotGeneral dot_S16384x512_S512x1024_S16384x1024_1_0_0_1_n_n none A1 (shapeCast S512x1024 A3 shapeCasts_S1x512x1024_S512x1024)

/-- The residual stream after the cross-attention. -/
def refX2 (A0 : FVec Ideal S16384x1024 .f32) (A2 : FVec Ideal S1x6x1024 .f32) (VrefO : FVec Ideal S16384x1024 .f32) : FVec Ideal S16384x1024 .f32 :=
  addf A0 (mulf (mulf VrefO (broadcastInDim S16384x1024 ![0, 1] bcast_S16384x1_S16384x1024_0_1 (Host.rsqrt (addf (Host.divf (broadcastInDim S16384x1 ![0] bcast_S16384_S16384x1_0 (Host.reduceAdd (mulf VrefO VrefO) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 (shapeCast S1024 (extractStridedSlice S1x1024 ![3, 0] (shapeCast S6x1024 A2 shapeCasts_S1x6x1024_S6x1024) slices_S6x1024_S1x1024_3_0) shapeCasts_S1x1024_S1024))))

/-- The gate and the value of the feed-forward part, side by side. -/
def refZ (A2 : FVec Ideal S1x6x1024 .f32) (A4 : FVec Ideal S1x1024x5632 .f32) (VrefX2 : FVec Ideal S16384x1024 .f32) : FVec Ideal S16384x5632 .f32 :=
  Host.dotGeneral dot_S16384x1024_S1024x5632_S16384x5632_1_0_0_1_n_n none (mulf (mulf VrefX2 (broadcastInDim S16384x1024 ![0, 1] bcast_S16384x1_S16384x1024_0_1 (Host.rsqrt (addf (Host.divf (broadcastInDim S16384x1 ![0] bcast_S16384_S16384x1_0 (Host.reduceAdd (mulf VrefX2 VrefX2) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 (shapeCast S1024 (extractStridedSlice S1x1024 ![4, 0] (shapeCast S6x1024 A2 shapeCasts_S1x6x1024_S6x1024) slices_S6x1024_S1x1024_4_0) shapeCasts_S1x1024_S1024)))) (shapeCast S1024x5632 A4 shapeCasts_S1x1024x5632_S1024x5632)

/-- The gated hidden rows. -/
def refH (VrefZ : FVec Ideal S16384x5632 .f32) : FVec Ideal S16384x2816 .f32 :=
  mulf (mulf (extractStridedSlice S16384x2816 ![0, 0] VrefZ slices_S16384x5632_S16384x2816_0_0) (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf (extractStridedSlice S16384x2816 ![0, 0] VrefZ slices_S16384x5632_S16384x2816_0_0)))))) (extractStridedSlice S16384x2816 ![0, 2816] VrefZ slices_S16384x5632_S16384x2816_0_2816)

/-- The hidden rows through the second weight. -/
def refF (A5 : FVec Ideal S1x2816x1024 .f32) (VrefH : FVec Ideal S16384x2816 .f32) : FVec Ideal S16384x1024 .f32 :=
  Host.dotGeneral dot_S16384x2816_S2816x1024_S16384x1024_1_0_0_1_n_n none VrefH (shapeCast S2816x1024 A5 shapeCasts_S1x2816x1024_S2816x1024)

/-- The residual stream after the feed-forward part. -/
def refY (A2 : FVec Ideal S1x6x1024 .f32) (VrefX2 : FVec Ideal S16384x1024 .f32) (VrefF : FVec Ideal S16384x1024 .f32) : FVec Ideal S16384x1024 .f32 :=
  addf VrefX2 (mulf (mulf VrefF (broadcastInDim S16384x1024 ![0, 1] bcast_S16384x1_S16384x1024_0_1 (Host.rsqrt (addf (Host.divf (broadcastInDim S16384x1 ![0] bcast_S16384_S16384x1_0 (Host.reduceAdd (mulf VrefF VrefF) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 (shapeCast S1024 (extractStridedSlice S1x1024 ![5, 0] (shapeCast S6x1024 A2 shapeCasts_S1x6x1024_S6x1024) slices_S6x1024_S1x1024_5_0) shapeCasts_S1x1024_S1024))))

/-- The reference's array, from its arguments. -/
def refOut (A0 : FVec Ideal S16384x1024 .f32) (A1 : FVec Ideal S16384x512 .f32) (A2 : FVec Ideal S1x6x1024 .f32) (A3 : FVec Ideal S1x512x1024 .f32) (A4 : FVec Ideal S1x1024x5632 .f32) (A5 : FVec Ideal S1x2816x1024 .f32) : FVec Ideal S16384x1024 .f32 :=
  refY A2 (refX2 A0 A2 (refO A1 A3)) (refF A5 (refH (refZ A2 A4 (refX2 A0 A2 (refO A1 A3)))))

theorem refO_at (A1 : FVec Ideal S16384x512 .f32) (A3 : FVec Ideal S1x512x1024 .f32) (r : Fin 16384) (l : Fin 1024) :
    refO A1 A3 (ix2 r l) = dot (fun i => A1 (ix2 r i)) (fun i => A3 (ix3 0 i l)) := by
  pointwise [refO, dot]

theorem refX2_at (A0 : FVec Ideal S16384x1024 .f32) (A2 : FVec Ideal S1x6x1024 .f32) (O : FVec Ideal S16384x1024 .f32)
    (r : Fin 16384) (k : Fin 1024) :
    refX2 A0 A2 O (ix2 r k) = A0 (ix2 r k) + rms len1024 (fun i => O (ix2 r i)) (fun i => A2 (ix3 0 3 i)) k := by
  pointwise [refX2, rms]

theorem refZ_at (A2 : FVec Ideal S1x6x1024 .f32) (A4 : FVec Ideal S1x1024x5632 .f32) (X : FVec Ideal S16384x1024 .f32)
    (r : Fin 16384) (j : Fin 5632) :
    refZ A2 A4 X (ix2 r j)
      = dot (rms len1024 (fun i => X (ix2 r i)) (fun i => A2 (ix3 0 4 i))) (fun i => A4 (ix3 0 i j)) := by
  pointwise [refZ, rms, dot]

theorem refH_at (Z : FVec Ideal S16384x5632 .f32) (r : Fin 16384) (j : Fin 2816) :
    refH Z (ix2 r j) = silu (Z (ix2 r ⟨j, by omega⟩)) * Z (ix2 r ⟨2816 + j, by omega⟩) := by
  pointwise [refH, silu, Ideal.logistic]

theorem refF_at (A5 : FVec Ideal S1x2816x1024 .f32) (H : FVec Ideal S16384x2816 .f32) (r : Fin 16384) (l : Fin 1024) :
    refF A5 H (ix2 r l) = dot (fun j => H (ix2 r j)) (fun j => A5 (ix3 0 j l)) := by
  pointwise [refF, dot]

theorem refY_at (A2 : FVec Ideal S1x6x1024 .f32) (X F : FVec Ideal S16384x1024 .f32) (r : Fin 16384) (k : Fin 1024) :
    refY A2 X F (ix2 r k) = X (ix2 r k) + rms len1024 (fun i => F (ix2 r i)) (fun i => A2 (ix3 0 5 i)) k := by
  pointwise [refY, rms]

/-- The reference's element is the feed-forward row function of its row. -/
theorem refOut_at (A0 : FVec Ideal S16384x1024 .f32) (A1 : FVec Ideal S16384x512 .f32) (A2 : FVec Ideal S1x6x1024 .f32) (A3 : FVec Ideal S1x512x1024 .f32) (A4 : FVec Ideal S1x1024x5632 .f32) (A5 : FVec Ideal S1x2816x1024 .f32) (r : Fin 16384) (k : Fin 1024) :
    refOut A0 A1 A2 A3 A4 A5 (ix2 r k)
      = ffnRow (fun i => A0 (ix2 r i)) (fun i => A1 (ix2 r i)) (fun i => A2 (ix3 0 3 i)) (fun i => A2 (ix3 0 4 i))
          (fun i => A2 (ix3 0 5 i)) (fun i l => A3 (ix3 0 i l)) (fun i j => A4 (ix3 0 i ⟨j, by omega⟩))
          (fun i j => A4 (ix3 0 i ⟨2816 + j, by omega⟩)) (fun j l => A5 (ix3 0 j l)) k := by
  unfold refOut ffnRow
  simp only [refY_at, refF_at, refH_at, refZ_at, refX2_at, refO_at]
  rfl

end Cert.FfnRefIdeal

end
-- ==== Proof.Ffn.lean ====
/- The feed-forward call: the array it leaves is the reference's. -/
module

public import proofs.«01_k».proof.Proof.Gen.FfnIdeal.Frame
public import proofs.«01_k».proof.Proof.FfnRef

@[expose] public section

set_option maxRecDepth 16384

noncomputable section

open Idealize.ShloMosaic Idealize.ShloMosaic.TcCoe Idealize.SL.Sem Cert.Rows

namespace Cert.FfnIdeal

open Cert.FfnIdeal.Gen
open Idealize.ShloMosaic.Pipeline (Dat)

variable (m : (ℓ : Loc nD τ sig) → Buf (Elt Ideal) ℓ)

theorem pay2_at (X : FVec Ideal S256x1024 .f32) (O : FVec Ideal S256x512 .f32) (W : FVec Ideal S512x1024 .bf16)
    (G : FVec Ideal S1x1024 .f32) (r : Fin 256) (k : Fin 1024) :
    k0_pay2 (F := Ideal) X O W G (ix2 r k)
      = X (ix2 r k) + rms len1024 (fun l => dot (fun i => O (ix2 r i)) fun i => W (ix2 i l)) (fun i => G (ix2 0 i)) k := by
  pointwise [k0_pay2, rms, dot]

theorem pay3_at (X : FVec Ideal S256x1024 .f32) (O : FVec Ideal S256x512 .f32) (W : FVec Ideal S512x1024 .bf16)
    (G G' : FVec Ideal S1x1024 .f32) (r : Fin 256) (k : Fin 1024) :
    k0_pay3 (F := Ideal) X O W G G' (ix2 r k)
      = rms len1024 (fun i => k0_pay2 (F := Ideal) X O W G (ix2 r i)) (fun i => G' (ix2 0 i)) k := by
  pointwise [k0_pay3, rms]

theorem pay4_at (X : FVec Ideal S256x1024 .f32) (O : FVec Ideal S256x512 .f32) (W : FVec Ideal S512x1024 .bf16)
    (G G' : FVec Ideal S1x1024 .f32) (U : FVec Ideal S1024x2816 .bf16) (r : Fin 256) (j : Fin 2816) :
    k0_pay4 (F := Ideal) X O W G G' U (ix2 r j)
      = dot (fun i => k0_pay3 (F := Ideal) X O W G G' (ix2 r i)) fun i => U (ix2 i j) := by
  pointwise [k0_pay4, dot]

theorem pay1_at (X2 : FVec Ideal S256x1024 .f32) (N : FVec Ideal S256x1024 .bf16) (Z : FVec Ideal S256x2816 .f32)
    (U : FVec Ideal S1024x2816 .bf16) (D : FVec Ideal S2816x1024 .bf16) (G : FVec Ideal S1x1024 .f32)
    (r : Fin 256) (k : Fin 1024) :
    k0_pay1 (F := Ideal) X2 N Z U D G (ix2 r k)
      = X2 (ix2 r k) + rms len1024 (fun l => dot (fun j => silu (Z (ix2 r j)) * dot (fun i => N (ix2 r i)) fun i => U (ix2 i j))
          fun j => D (ix2 j l)) (fun i => G (ix2 0 i)) k := by
  pointwise [k0_pay1, rms, dot, silu]

/-- The element a point stores: the feed-forward row function of its blocks. -/
theorem pay_at (X : FVec Ideal S256x1024 .f32) (O : FVec Ideal S256x512 .f32) (W : FVec Ideal S512x1024 .bf16)
    (G3 G4 G5 : FVec Ideal S1x1024 .f32) (U U' : FVec Ideal S1024x2816 .bf16) (D : FVec Ideal S2816x1024 .bf16)
    (r : Fin 256) (k : Fin 1024) :
    k0_pay1 (F := Ideal) (k0_pay2 X O W G3) (k0_pay3 X O W G3 G4) (k0_pay4 X O W G3 G4 U) U' D G5 (ix2 r k)
      = ffnRow (fun i => X (ix2 r i)) (fun i => O (ix2 r i)) (fun i => G3 (ix2 0 i)) (fun i => G4 (ix2 0 i))
          (fun i => G5 (ix2 0 i)) (fun i l => W (ix2 i l)) (fun i j => U (ix2 i j)) (fun i j => U' (ix2 i j))
          (fun j l => D (ix2 j l)) k := by
  unfold ffnRow
  simp only [pay1_at, pay4_at, pay3_at, pay2_at]
  rfl

/-- Which block of each array a grid point stages: its own 256 rows, everything else whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- A point's block of the residual stream is its 256 rows. -/
theorem x_at (c : Dev nD) (t : Fin cfg0.N) (r : Fin 256) (k : Fin 1024) (R : Fin 16384) (hR : (R : ℕ) = t.val * 256 + r) :
    iblk m c 0 t (ix2 r k) = m ((c : Thread nD τ).loc main_arg0) (ix2 R k) := by
  blk_simp [iblk, V]
  blk_ext [idx t]

/-- A point's block of the attention is its 256 rows. -/
theorem o_at (c : Dev nD) (t : Fin cfg0.N) (r : Fin 256) (k : Fin 512) (R : Fin 16384) (hR : (R : ℕ) = t.val * 256 + r) :
    iblk m c 1 t (ix2 r k) = m ((c : Thread nD τ).loc main_arg1) (ix2 R k) := by
  blk_simp [iblk, V]
  blk_ext [idx t]

/-- The gains' block is the gains. -/
theorem g_at (c : Dev nD) (t : Fin cfg0.N) (a : Fin 6) (k : Fin 1024) :
    iblk m c 2 t (ix2 a k) = m ((c : Thread nD τ).loc main_arg2) (ix3 0 a k) := by
  blk_simp [iblk]
  entry_read
  pointwise
  blk_ext [idx t]

/-- The projection's block is the projection. -/
theorem xo_at (c : Dev nD) (t : Fin cfg0.N) (i : Fin 512) (l : Fin 1024) :
    iblk m c 3 t (ix2 i l) = m ((c : Thread nD τ).loc main_arg3) (ix3 0 i l) := by
  blk_simp [iblk]
  entry_read
  pointwise
  blk_ext [idx t]

/-- The first weight's block is the first weight. -/
theorem wi_at (c : Dev nD) (t : Fin cfg0.N) (i : Fin 1024) (l : Fin 5632) :
    iblk m c 4 t (ix2 i l) = m ((c : Thread nD τ).loc main_arg4) (ix3 0 i l) := by
  blk_simp [iblk]
  entry_read
  pointwise
  blk_ext [idx t]

/-- The second weight's block is the second weight. -/
theorem wo_at (c : Dev nD) (t : Fin cfg0.N) (i : Fin 2816) (l : Fin 1024) :
    iblk m c 5 t (ix2 i l) = m ((c : Thread nD τ).loc main_arg5) (ix3 0 i l) := by
  blk_simp [iblk]
  entry_read
  pointwise
  blk_ext [idx t]

/-- What a point stores, at an index of its block. -/
theorem out_at (X : Vec Ideal S256x1024 .f32) (O : Vec Ideal S256x512 .f32) (G : Vec Ideal S6x1024 .f32)
    (W : Vec Ideal S512x1024 .bf16) (U : Vec Ideal S1024x5632 .bf16) (D : Vec Ideal S2816x1024 .bf16)
    (r : Fin 256) (k : Fin 1024) :
    out0_6 (F := Ideal) X O G W U D (ix2 r k)
      = ffnRow (fun i => X (ix2 r i)) (fun i => O (ix2 r i)) (fun i => G (ix2 3 i)) (fun i => G (ix2 4 i))
          (fun i => G (ix2 5 i)) (fun i l => W (ix2 i l)) (fun i j => U (ix2 i ⟨j, by omega⟩))
          (fun i j => U (ix2 i ⟨2816 + j, by omega⟩)) (fun j l => D (ix2 j l)) k := by
  frame_out
  refine (pay_at _ _ _ _ _ _ _ _ _ r k).trans ?_
  refine ffnRow_congr (fun k => rfl) (fun k => rfl) (fun k => ?_) (fun k => ?_) (fun k => ?_) (fun k l => rfl) (fun k l => ?_)
    (fun k l => ?_) (fun k l => rfl) k
  all_goals pointwise

/-- The array after the run is the reference's. -/
theorem final (c : Dev nD) :
    (dats m 0 c).arrAt 6 (cfgs 0).N
      = Cert.FfnRefIdeal.refOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t _ y => ?_
  blk_simp
  rw [after0_6]
  idx_vars y
  have ht : t.val < 64 := lt_of_lt_of_eq t.isLt N_0
  have he : (((cfg0.win 6).blk t).view.emb (ix2 y0 y1) : S16384x1024.Idx) = ix2 ⟨t.val * 256 + y0, by omega⟩ y1 := by
    blk_ext [idx t]
  refine (out_at _ _ _ _ _ _ y0 y1).trans (Eq.trans ?_ ((congrArg _ he).trans (Cert.FfnRefIdeal.refOut_at _ _ _ _ _ _ _ y1)).symm)
  exact ffnRow_congr (fun k => x_at m c t y0 k _ rfl) (fun k => o_at m c t y0 k _ rfl) (fun k => g_at m c t 3 k)
    (fun k => g_at m c t 4 k) (fun k => g_at m c t 5 k) (fun k l => xo_at m c t k l) (fun k l => wi_at m c t k _)
    (fun k l => wi_at m c t k _) (fun k l => wo_at m c t k l) y1

end Cert.FfnIdeal

end
-- ==== Proof.FfnClaims.lean ====
/- The claims about Ffn: the three programs' frames, and the call's arrays equal to the reference's. -/
module

public import proofs.«01_k».proof.Defs
public import proofs.«01_k».proof.Proof.Gen.Ffn.Frame
public import proofs.«01_k».proof.Proof.Gen.FfnRefIdeal.Run
public import proofs.«01_k».proof.Proof.Ffn

@[expose] public section

set_option maxRecDepth 16384

noncomputable section

namespace Cert.Proof.FfnClaims

open Idealize.ShloMosaic Idealize.SL.Sem

/-- The program, its idealization and the reference run to the end and leave their arguments as they were. -/
theorem frame : Cert.quiescent_Ffn := fun m g _ => Cert.Ffn.Gen.frame m g

theorem frameIdeal : Cert.quiescent_FfnIdeal := fun m g _ => Cert.FfnIdeal.Gen.frame m g

theorem frameRef : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run (F := Ideal) m g)

/-- From equal arguments the call and the reference end with equal results. -/
theorem algebraic : Cert.algebraic_FfnIdeal_FfnRefIdeal := by
  pair_intro
  · run_from Cert.FfnIdeal.Gen.run_main m g
  · run_from Cert.FfnRefIdeal.Value.run m' g'
    · obtain ⟨h0, h1, h2, h3, h4, h5⟩ := hagree c
      refine Eq.trans ?_ (Cert.FfnIdeal.final m c).symm
      rw [← h0, ← h1, ← h2, ← h3, ← h4, ← h5]
      rfl

end Cert.Proof.FfnClaims

end
-- ==== Proof.FfnSRef.lean ====
/- What the reference of the feed-forward call on the sample rows computes, row by row. -/
module

public import proofs.«01_k».proof.Proof.Gen.FfnSRefIdeal.Run
public import proofs.«01_k».proof.Proof.Rows

@[expose] public section

set_option maxRecDepth 16384

noncomputable section

open Idealize.ShloMosaic Idealize.ShloMosaic.TcCoe Idealize.SL.Sem Cert.Rows

namespace Cert.FfnSRefIdeal

open Cert.FfnSRefIdeal.Gen

/-- The cross-attention output through its projection. -/
def refO (A1 : FVec Ideal S128x512 .f32) (A3 : FVec Ideal S1x512x1024 .f32) : FVec Ideal S128x1024 .f32 :=
  Host.dotGeneral dot_S128x512_S512x1024_S128x1024_1_0_0_1_n_n none A1 (shapeCast S512x1024 A3 shapeCasts_S1x512x1024_S512x1024)

/-- The residual stream after the cross-attention. -/
def refX2 (A0 : FVec Ideal S128x1024 .f32) (A2 : FVec Ideal S1x6x1024 .f32) (VrefO : FVec Ideal S128x1024 .f32) : FVec Ideal S128x1024 .f32 :=
  addf A0 (mulf (mulf VrefO (broadcastInDim S128x1024 ![0, 1] bcast_S128x1_S128x1024_0_1 (Host.rsqrt (addf (Host.divf (broadcastInDim S128x1 ![0] bcast_S128_S128x1_0 (Host.reduceAdd (mulf VrefO VrefO) (constant (F := Ideal) S_ .f32 0x00000000#32) reducesTo_S128x1024_S128_d1 h_S_)) (broadcastInDim S128x1 ![] bcast_S_S128x1 (constant (F := Ideal) S_ .f32 0x44800000#32))) (broadcastInDim S128x1 ![] bcast_S_S128x1 (constant (F := Ideal) S_ .f32 0x358637BD#32)))))) (broadcastInDim S128x1024 ![0, 1] bcast_S1x1024_S128x1024_0_1 (broadcastInDim S1x1024 ![1] bcast_S1024_S1x1024_1 (shapeCast S1024 (extractStridedSlice S1x1024 ![3, 0] (shapeCast S6x1024 A2 shapeCasts_S1x6x1024_S6x1024) slices_S6x1024_S1x1024_3_0) shapeCasts_S1x1024_S1024))))

/-- The gate and the value of the feed-forward part, side by side. -/
def refZ (A2 : FVec Ideal S1x6x1024 .f32) (A4 : FVec Ideal S1x1024x5632 .f32) (VrefX2 : FVec Ideal S128x1024 .f32) : FVec Ideal S128x5632 .f32 :=
  Host.dotGeneral dot_S128x1024_S1024x5632_S128x5632_1_0_0_1_n_n none (mulf (mulf VrefX2 (broadcastInDim S128x1024 ![0, 1] bcast_S128x1_S128x1024_0_1 (Host.rsqrt (addf (Host.divf (broadcastInDim S128x1 ![0] bcast_S128_S128x1_0 (Host.reduceAdd (mulf VrefX2 VrefX2) (constant (F := Ideal) S_ .f32 0x00000000#32) reducesTo_S128x1024_S128_d1 h_S_)) (broadcastInDim S128x1 ![] bcast_S_S128x1 (constant (F := Ideal) S_ .f32 0x44800000#32))) (broadcastInDim S128x1 ![] bcast_S_S128x1 (constant (F := Ideal) S_ .f32 0x358637BD#32)))))) (broadcastInDim S128x1024 ![0, 1] bcast_S1x1024_S128x1024_0_1 (broadcastInDim S1x1024 ![1] bcast_S1024_S1x1024_1 (shapeCast S1024 (extractStridedSlice S1x1024 ![4, 0] (shapeCast S6x1024 A2 shapeCasts_S1x6x1024_S6x1024) slices_S6x1024_S1x1024_4_0) shapeCasts_S1x1024_S1024)))) (shapeCast S1024x5632 A4 shapeCasts_S1x1024x5632_S1024x5632)

/-- The gated hidden rows. -/
def refH (VrefZ : FVec Ideal S128x5632 .f32) : FVec Ideal S128x2816 .f32 :=
  mulf (mulf (extractStridedSlice S128x2816 ![0, 0] VrefZ slices_S128x5632_S128x2816_0_0) (Host.divf (broadcastInDim S128x2816 ![] bcast_S_S128x2816 (constant (F := Ideal) S_ .f32 0x3F800000#32)) (addf (broadcastInDim S128x2816 ![] bcast_S_S128x2816 (constant (F := Ideal) S_ .f32 0x3F800000#32)) (Host.exp (Host.negf (extractStridedSlice S128x2816 ![0, 0] VrefZ slices_S128x5632_S128x2816_0_0)))))) (extractStridedSlice S128x2816 ![0, 2816] VrefZ slices_S128x5632_S128x2816_0_2816)

/-- The hidden rows through the second weight. -/
def refF (A5 : FVec Ideal S1x2816x1024 .f32) (VrefH : FVec Ideal S128x2816 .f32) : FVec Ideal S128x1024 .f32 :=
  Host.dotGeneral dot_S128x2816_S2816x1024_S128x1024_1_0_0_1_n_n none VrefH (shapeCast S2816x1024 A5 shapeCasts_S1x2816x1024_S2816x1024)

/-- The residual stream after the feed-forward part. -/
def refY (A2 : FVec Ideal S1x6x1024 .f32) (VrefX2 : FVec Ideal S128x1024 .f32) (VrefF : FVec Ideal S128x1024 .f32) : FVec Ideal S128x1024 .f32 :=
  addf VrefX2 (mulf (mulf VrefF (broadcastInDim S128x1024 ![0, 1] bcast_S128x1_S128x1024_0_1 (Host.rsqrt (addf (Host.divf (broadcastInDim S128x1 ![0] bcast_S128_S128x1_0 (Host.reduceAdd (mulf VrefF VrefF) (constant (F := Ideal) S_ .f32 0x00000000#32) reducesTo_S128x1024_S128_d1 h_S_)) (broadcastInDim S128x1 ![] bcast_S_S128x1 (constant (F := Ideal) S_ .f32 0x44800000#32))) (broadcastInDim S128x1 ![] bcast_S_S128x1 (constant (F := Ideal) S_ .f32 0x358637BD#32)))))) (broadcastInDim S128x1024 ![0, 1] bcast_S1x1024_S128x1024_0_1 (broadcastInDim S1x1024 ![1] bcast_S1024_S1x1024_1 (shapeCast S1024 (extractStridedSlice S1x1024 ![5, 0] (shapeCast S6x1024 A2 shapeCasts_S1x6x1024_S6x1024) slices_S6x1024_S1x1024_5_0) shapeCasts_S1x1024_S1024))))

/-- The reference's array, from its arguments. -/
def refOut (A0 : FVec Ideal S128x1024 .f32) (A1 : FVec Ideal S128x512 .f32) (A2 : FVec Ideal S1x6x1024 .f32) (A3 : FVec Ideal S1x512x1024 .f32) (A4 : FVec Ideal S1x1024x5632 .f32) (A5 : FVec Ideal S1x2816x1024 .f32) : FVec Ideal S128x1024 .f32 :=
  refY A2 (refX2 A0 A2 (refO A1 A3)) (refF A5 (refH (refZ A2 A4 (refX2 A0 A2 (refO A1 A3)))))

theorem refO_at (A1 : FVec Ideal S128x512 .f32) (A3 : FVec Ideal S1x512x1024 .f32) (r : Fin 128) (l : Fin 1024) :
    refO A1 A3 (ix2 r l) = dot (fun i => A1 (ix2 r i)) (fun i => A3 (ix3 0 i l)) := by
  pointwise [refO, dot]

theorem refX2_at (A0 : FVec Ideal S128x1024 .f32) (A2 : FVec Ideal S1x6x1024 .f32) (O : FVec Ideal S128x1024 .f32)
    (r : Fin 128) (k : Fin 1024) :
    refX2 A0 A2 O (ix2 r k) = A0 (ix2 r k) + rms len1024 (fun i => O (ix2 r i)) (fun i => A2 (ix3 0 3 i)) k := by
  pointwise [refX2, rms]

theorem refZ_at (A2 : FVec Ideal S1x6x1024 .f32) (A4 : FVec Ideal S1x1024x5632 .f32) (X : FVec Ideal S128x1024 .f32)
    (r : Fin 128) (j : Fin 5632) :
    refZ A2 A4 X (ix2 r j)
      = dot (rms len1024 (fun i => X (ix2 r i)) (fun i => A2 (ix3 0 4 i))) (fun i => A4 (ix3 0 i j)) := by
  pointwise [refZ, rms, dot]

theorem refH_at (Z : FVec Ideal S128x5632 .f32) (r : Fin 128) (j : Fin 2816) :
    refH Z (ix2 r j) = silu (Z (ix2 r ⟨j, by omega⟩)) * Z (ix2 r ⟨2816 + j, by omega⟩) := by
  pointwise [refH, silu, Ideal.logistic]

theorem refF_at (A5 : FVec Ideal S1x2816x1024 .f32) (H : FVec Ideal S128x2816 .f32) (r : Fin 128) (l : Fin 1024) :
    refF A5 H (ix2 r l) = dot (fun j => H (ix2 r j)) (fun j => A5 (ix3 0 j l)) := by
  pointwise [refF, dot]

theorem refY_at (A2 : FVec Ideal S1x6x1024 .f32) (X F : FVec Ideal S128x1024 .f32) (r : Fin 128) (k : Fin 1024) :
    refY A2 X F (ix2 r k) = X (ix2 r k) + rms len1024 (fun i => F (ix2 r i)) (fun i => A2 (ix3 0 5 i)) k := by
  pointwise [refY, rms]

/-- The reference's element is the feed-forward row function of its row. -/
theorem refOut_at (A0 : FVec Ideal S128x1024 .f32) (A1 : FVec Ideal S128x512 .f32) (A2 : FVec Ideal S1x6x1024 .f32) (A3 : FVec Ideal S1x512x1024 .f32) (A4 : FVec Ideal S1x1024x5632 .f32) (A5 : FVec Ideal S1x2816x1024 .f32) (r : Fin 128) (k : Fin 1024) :
    refOut A0 A1 A2 A3 A4 A5 (ix2 r k)
      = ffnRow (fun i => A0 (ix2 r i)) (fun i => A1 (ix2 r i)) (fun i => A2 (ix3 0 3 i)) (fun i => A2 (ix3 0 4 i))
          (fun i => A2 (ix3 0 5 i)) (fun i l => A3 (ix3 0 i l)) (fun i j => A4 (ix3 0 i ⟨j, by omega⟩))
          (fun i j => A4 (ix3 0 i ⟨2816 + j, by omega⟩)) (fun j l => A5 (ix3 0 j l)) k := by
  unfold refOut ffnRow
  simp only [refY_at, refF_at, refH_at, refZ_at, refX2_at, refO_at]
  rfl

end Cert.FfnSRefIdeal

end
-- ==== Proof.FfnS.lean ====
/- The feed-forward call: the array it leaves is the reference's. -/
module

public import proofs.«01_k».proof.Proof.Gen.FfnSIdeal.Frame
public import proofs.«01_k».proof.Proof.FfnSRef

@[expose] public section

set_option maxRecDepth 16384

noncomputable section

open Idealize.ShloMosaic Idealize.ShloMosaic.TcCoe Idealize.SL.Sem Cert.Rows

namespace Cert.FfnSIdeal

open Cert.FfnSIdeal.Gen
open Idealize.ShloMosaic.Pipeline (Dat)

variable (m : (ℓ : Loc nD τ sig) → Buf (Elt Ideal) ℓ)

theorem pay2_at (X : FVec Ideal S128x1024 .f32) (O : FVec Ideal S128x512 .f32) (W : FVec Ideal S512x1024 .bf16)
    (G : FVec Ideal S1x1024 .f32) (r : Fin 128) (k : Fin 1024) :
    k0_pay2 (F := Ideal) X O W G (ix2 r k)
      = X (ix2 r k) + rms len1024 (fun l => dot (fun i => O (ix2 r i)) fun i => W (ix2 i l)) (fun i => G (ix2 0 i)) k := by
  pointwise [k0_pay2, rms, dot]

theorem pay3_at (X : FVec Ideal S128x1024 .f32) (O : FVec Ideal S128x512 .f32) (W : FVec Ideal S512x1024 .bf16)
    (G G' : FVec Ideal S1x1024 .f32) (r : Fin 128) (k : Fin 1024) :
    k0_pay3 (F := Ideal) X O W G G' (ix2 r k)
      = rms len1024 (fun i => k0_pay2 (F := Ideal) X O W G (ix2 r i)) (fun i => G' (ix2 0 i)) k := by
  pointwise [k0_pay3, rms]

theorem pay4_at (X : FVec Ideal S128x1024 .f32) (O : FVec Ideal S128x512 .f32) (W : FVec Ideal S512x1024 .bf16)
    (G G' : FVec Ideal S1x1024 .f32) (U : FVec Ideal S1024x2816 .bf16) (r : Fin 128) (j : Fin 2816) :
    k0_pay4 (F := Ideal) X O W G G' U (ix2 r j)
      = dot (fun i => k0_pay3 (F := Ideal) X O W G G' (ix2 r i)) fun i => U (ix2 i j) := by
  pointwise [k0_pay4, dot]

theorem pay1_at (X2 : FVec Ideal S128x1024 .f32) (N : FVec Ideal S128x1024 .bf16) (Z : FVec Ideal S128x2816 .f32)
    (U : FVec Ideal S1024x2816 .bf16) (D : FVec Ideal S2816x1024 .bf16) (G : FVec Ideal S1x1024 .f32)
    (r : Fin 128) (k : Fin 1024) :
    k0_pay1 (F := Ideal) X2 N Z U D G (ix2 r k)
      = X2 (ix2 r k) + rms len1024 (fun l => dot (fun j => silu (Z (ix2 r j)) * dot (fun i => N (ix2 r i)) fun i => U (ix2 i j))
          fun j => D (ix2 j l)) (fun i => G (ix2 0 i)) k := by
  pointwise [k0_pay1, rms, dot, silu]

/-- The element a point stores: the feed-forward row function of its blocks. -/
theorem pay_at (X : FVec Ideal S128x1024 .f32) (O : FVec Ideal S128x512 .f32) (W : FVec Ideal S512x1024 .bf16)
    (G3 G4 G5 : FVec Ideal S1x1024 .f32) (U U' : FVec Ideal S1024x2816 .bf16) (D : FVec Ideal S2816x1024 .bf16)
    (r : Fin 128) (k : Fin 1024) :
    k0_pay1 (F := Ideal) (k0_pay2 X O W G3) (k0_pay3 X O W G3 G4) (k0_pay4 X O W G3 G4 U) U' D G5 (ix2 r k)
      = ffnRow (fun i => X (ix2 r i)) (fun i => O (ix2 r i)) (fun i => G3 (ix2 0 i)) (fun i => G4 (ix2 0 i))
          (fun i => G5 (ix2 0 i)) (fun i l => W (ix2 i l)) (fun i j => U (ix2 i j)) (fun i j => U' (ix2 i j))
          (fun j l => D (ix2 j l)) k := by
  unfold ffnRow
  simp only [pay1_at, pay4_at, pay3_at, pay2_at]
  rfl

/-- Which block of each array a grid point stages: its own 128 rows, everything else whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- A point's block of the residual stream is its 128 rows. -/
theorem x_at (c : Dev nD) (t : Fin cfg0.N) (r : Fin 128) (k : Fin 1024) (R : Fin 128) (hR : (R : ℕ) = t.val * 128 + r) :
    iblk m c 0 t (ix2 r k) = m ((c : Thread nD τ).loc main_arg0) (ix2 R k) := by
  blk_simp [iblk, V]
  blk_ext [idx t]

/-- A point's block of the attention is its 128 rows. -/
theorem o_at (c : Dev nD) (t : Fin cfg0.N) (r : Fin 128) (k : Fin 512) (R : Fin 128) (hR : (R : ℕ) = t.val * 128 + r) :
    iblk m c 1 t (ix2 r k) = m ((c : Thread nD τ).loc main_arg1) (ix2 R k) := by
  blk_simp [iblk, V]
  blk_ext [idx t]

/-- The gains' block is the gains. -/
theorem g_at (c : Dev nD) (t : Fin cfg0.N) (a : Fin 6) (k : Fin 1024) :
    iblk m c 2 t (ix2 a k) = m ((c : Thread nD τ).loc main_arg2) (ix3 0 a k) := by
  blk_simp [iblk]
  entry_read
  pointwise
  blk_ext [idx t]

/-- The projection's block is the projection. -/
theorem xo_at (c : Dev nD) (t : Fin cfg0.N) (i : Fin 512) (l : Fin 1024) :
    iblk m c 3 t (ix2 i l) = m ((c : Thread nD τ).loc main_arg3) (ix3 0 i l) := by
  blk_simp [iblk]
  entry_read
  pointwise
  blk_ext [idx t]

/-- The first weight's block is the first weight. -/
theorem wi_at (c : Dev nD) (t : Fin cfg0.N) (i : Fin 1024) (l : Fin 5632) :
    iblk m c 4 t (ix2 i l) = m ((c : Thread nD τ).loc main_arg4) (ix3 0 i l) := by
  blk_simp [iblk]
  entry_read
  pointwise
  blk_ext [idx t]

/-- The second weight's block is the second weight. -/
theorem wo_at (c : Dev nD) (t : Fin cfg0.N) (i : Fin 2816) (l : Fin 1024) :
    iblk m c 5 t (ix2 i l) = m ((c : Thread nD τ).loc main_arg5) (ix3 0 i l) := by
  blk_simp [iblk]
  entry_read
  pointwise
  blk_ext [idx t]

/-- What a point stores, at an index of its block. -/
theorem out_at (X : Vec Ideal S128x1024 .f32) (O : Vec Ideal S128x512 .f32) (G : Vec Ideal S6x1024 .f32)
    (W : Vec Ideal S512x1024 .bf16) (U : Vec Ideal S1024x5632 .bf16) (D : Vec Ideal S2816x1024 .bf16)
    (r : Fin 128) (k : Fin 1024) :
    out0_6 (F := Ideal) X O G W U D (ix2 r k)
      = ffnRow (fun i => X (ix2 r i)) (fun i => O (ix2 r i)) (fun i => G (ix2 3 i)) (fun i => G (ix2 4 i))
          (fun i => G (ix2 5 i)) (fun i l => W (ix2 i l)) (fun i j => U (ix2 i ⟨j, by omega⟩))
          (fun i j => U (ix2 i ⟨2816 + j, by omega⟩)) (fun j l => D (ix2 j l)) k := by
  frame_out
  refine (pay_at _ _ _ _ _ _ _ _ _ r k).trans ?_
  refine ffnRow_congr (fun k => rfl) (fun k => rfl) (fun k => ?_) (fun k => ?_) (fun k => ?_) (fun k l => rfl) (fun k l => ?_)
    (fun k l => ?_) (fun k l => rfl) k
  all_goals pointwise

/-- The array after the run is the reference's. -/
theorem final (c : Dev nD) :
    (dats m 0 c).arrAt 6 (cfgs 0).N
      = Cert.FfnSRefIdeal.refOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t _ y => ?_
  blk_simp
  rw [after0_6]
  idx_vars y
  have ht : t.val < 1 := lt_of_lt_of_eq t.isLt N_0
  have he : (((cfg0.win 6).blk t).view.emb (ix2 y0 y1) : S128x1024.Idx) = ix2 ⟨t.val * 128 + y0, by omega⟩ y1 := by
    blk_ext [idx t]
  refine (out_at _ _ _ _ _ _ y0 y1).trans (Eq.trans ?_ ((congrArg _ he).trans (Cert.FfnSRefIdeal.refOut_at _ _ _ _ _ _ _ y1)).symm)
  exact ffnRow_congr (fun k => x_at m c t y0 k _ rfl) (fun k => o_at m c t y0 k _ rfl) (fun k => g_at m c t 3 k)
    (fun k => g_at m c t 4 k) (fun k => g_at m c t 5 k) (fun k l => xo_at m c t k l) (fun k l => wi_at m c t k _)
    (fun k l => wi_at m c t k _) (fun k l => wo_at m c t k l) y1

end Cert.FfnSIdeal

end
-- ==== Proof.FfnSClaims.lean ====
/- The claims about FfnS: the three programs' frames, and the call's arrays equal to the reference's. -/
module

public import proofs.«01_k».proof.Defs
public import proofs.«01_k».proof.Proof.Gen.FfnS.Frame
public import proofs.«01_k».proof.Proof.Gen.FfnSRefIdeal.Run
public import proofs.«01_k».proof.Proof.FfnS

@[expose] public section

set_option maxRecDepth 16384

noncomputable section

namespace Cert.Proof.FfnSClaims

open Idealize.ShloMosaic Idealize.SL.Sem

/-- The program, its idealization and the reference run to the end and leave their arguments as they were. -/
theorem frame : Cert.quiescent_FfnS := fun m g _ => Cert.FfnS.Gen.frame m g

theorem frameIdeal : Cert.quiescent_FfnSIdeal := fun m g _ => Cert.FfnSIdeal.Gen.frame m g

theorem frameRef : Cert.quiescent_FfnSRefIdeal := by
  intro m g _
  exact (θ_run Cert.FfnSRefIdeal.defs _ _).mono (fun r h => ⟨fun c => (h c).2, sem_eq_zero_of_no_sems (by decide) r.2⟩)
    (Cert.FfnSRefIdeal.Value.run (F := Ideal) m g)

/-- From equal arguments the call and the reference end with equal results. -/
theorem algebraic : Cert.algebraic_FfnSIdeal_FfnSRefIdeal := by
  pair_intro
  · run_from Cert.FfnSIdeal.Gen.run_main m g
  · run_from Cert.FfnSRefIdeal.Value.run m' g'
    · obtain ⟨h0, h1, h2, h3, h4, h5⟩ := hagree c
      refine Eq.trans ?_ (Cert.FfnSIdeal.final m c).symm
      rw [← h0, ← h1, ← h2, ← h3, ← h4, ← h5]
      rfl

end Cert.Proof.FfnSClaims

end
-- ==== Proof.lean ====
/- The claims: of each of the layer's calls, the three programs' frames, that the idealization rewrites nothing, and that
   over the extended reals the call's arrays equal the reference's. Each call's claims are proved in its own module. -/
module

public import proofs.«01_k».proof.Defs
public import proofs.«01_k».proof.Proof.Gen.SsmDiscIdeal.Value
public import proofs.«01_k».proof.Proof.Gen.SsmDiscRefIdeal.Run
public import proofs.«01_k».proof.Proof.SsmDiscClaims
public import proofs.«01_k».proof.Proof.Gen.InprojIdeal.Value
public import proofs.«01_k».proof.Proof.Gen.InprojRefIdeal.Run
public import proofs.«01_k».proof.Proof.InprojClaims
public import proofs.«01_k».proof.Proof.Gen.InprojSIdeal.Value
public import proofs.«01_k».proof.Proof.Gen.InprojSRefIdeal.Run
public import proofs.«01_k».proof.Proof.InprojSClaims
public import proofs.«01_k».proof.Proof.Gen.MergeIdeal.Value
public import proofs.«01_k».proof.Proof.Gen.MergeRefIdeal.Run
public import proofs.«01_k».proof.Proof.MergeClaims
public import proofs.«01_k».proof.Proof.Gen.MemkvIdeal.Value
public import proofs.«01_k».proof.Proof.Gen.MemkvRefIdeal.Run
public import proofs.«01_k».proof.Proof.MemkvClaims
public import proofs.«01_k».proof.Proof.Gen.FfnIdeal.Value
public import proofs.«01_k».proof.Proof.Gen.FfnRefIdeal.Run
public import proofs.«01_k».proof.Proof.FfnClaims
public import proofs.«01_k».proof.Proof.Gen.FfnSIdeal.Value
public import proofs.«01_k».proof.Proof.Gen.FfnSRefIdeal.Run
public import proofs.«01_k».proof.Proof.FfnSClaims
public import Idealize.ShloMosaic.Adequacy
public import Idealize.ShloMosaic.Init

@[expose] public section

noncomputable section

namespace Cert.Proof

open Idealize.ShloMosaic Idealize.SL.Sem

theorem claim : Cert.Claim :=
  ⟨Cert.SsmDisc.Gen.facts,
    Cert.SsmDiscIdeal.Gen.facts,
    Cert.SsmDiscRefIdeal.Gen.facts,
    Cert.Inproj.Gen.facts,
    Cert.InprojIdeal.Gen.facts,
    Cert.InprojRefIdeal.Gen.facts,
    Cert.InprojS.Gen.facts,
    Cert.InprojSIdeal.Gen.facts,
    Cert.InprojSRefIdeal.Gen.facts,
    Cert.Merge.Gen.facts,
    Cert.MergeIdeal.Gen.facts,
    Cert.MergeRefIdeal.Gen.facts,
    Cert.Memkv.Gen.facts,
    Cert.MemkvIdeal.Gen.facts,
    Cert.MemkvRefIdeal.Gen.facts,
    Cert.Ffn.Gen.facts,
    Cert.FfnIdeal.Gen.facts,
    Cert.FfnRefIdeal.Gen.facts,
    Cert.FfnS.Gen.facts,
    Cert.FfnSIdeal.Gen.facts,
    Cert.FfnSRefIdeal.Gen.facts,
    SsmDiscClaims.frame,
    SsmDiscClaims.frameIdeal,
    SsmDiscClaims.frameRef,
    InprojClaims.frame,
    InprojClaims.frameIdeal,
    InprojClaims.frameRef,
    InprojSClaims.frame,
    InprojSClaims.frameIdeal,
    InprojSClaims.frameRef,
    MergeClaims.frame,
    MergeClaims.frameIdeal,
    MergeClaims.frameRef,
    MemkvClaims.frame,
    MemkvClaims.frameIdeal,
    MemkvClaims.frameRef,
    FfnClaims.frame,
    FfnClaims.frameIdeal,
    FfnClaims.frameRef,
    FfnSClaims.frame,
    FfnSClaims.frameIdeal,
    FfnSClaims.frameRef,
    trivial,
    SsmDiscClaims.algebraic,
    trivial,
    InprojClaims.algebraic,
    trivial,
    InprojSClaims.algebraic,
    trivial,
    MergeClaims.algebraic,
    trivial,
    MemkvClaims.algebraic,
    trivial,
    FfnClaims.algebraic,
    trivial,
    FfnSClaims.algebraic⟩

end Cert.Proof

end
